-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S8x128x512 : Shape := ⟨3, ![8, 128, 512]⟩
abbrev S8 : Shape := ⟨1, ![8]⟩
abbrev S_ : Shape := ⟨0, ![]⟩
abbrev S1 : Shape := ⟨1, ![1]⟩
abbrev S1x128x512 : Shape := ⟨3, ![1, 128, 512]⟩
abbrev S128x512 : Shape := ⟨2, ![128, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S8x128x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_dev3 (d0 : Dev nD) : Nat :=
  let c0_i32_16 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_15 : BitVec 32 := 2#32
  let v17 : BitVec 32 := Scalar.muli v6 c2_i32_15
  let v18 : BitVec 32 := Scalar.addi c0_i32_16 v17
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v19 : BitVec 32 := Scalar.muli v5 c1_i32_17
  let v20 : BitVec 32 := Scalar.addi v18 v19
  v20.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v28 : BitVec 32 := Scalar.muli v2 c2_i32_25
  let v29 : BitVec 32 := Scalar.addi c0_i32_26 v28
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_27 : BitVec 32 := 1#32
  let v30 : BitVec 32 := Scalar.muli v7 c1_i32_27
  let v31 : BitVec 32 := Scalar.addi v29 v30
  v31.toNat
def k0_dev5 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v39 : BitVec 32 := Scalar.muli v6 c2_i32_34
  let v40 : BitVec 32 := Scalar.addi c0_i32_35 v39
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v41 : BitVec 32 := Scalar.muli v5 c1_i32_36
  let v42 : BitVec 32 := Scalar.addi v40 v41
  v42.toNat
def k0_dev6 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v50 : BitVec 32 := Scalar.muli v2 c2_i32_42
  let v51 : BitVec 32 := Scalar.addi c0_i32_43 v50
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_44 : BitVec 32 := 1#32
  let v52 : BitVec 32 := Scalar.muli v7 c1_i32_44
  let v53 : BitVec 32 := Scalar.addi v51 v52
  v53.toNat
def k0_dev7 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v76 : BitVec 32 := Scalar.muli v2 c2_i32_66
  let v77 : BitVec 32 := Scalar.addi c0_i32_67 v76
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_68 : BitVec 32 := 1#32
  let v78 : BitVec 32 := Scalar.muli v7 c1_i32_68
  let v79 : BitVec 32 := Scalar.addi v77 v78
  v79.toNat
def k0_dev8 (d0 : Dev nD) : Nat :=
  let c0_i32_91 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_90 : BitVec 32 := 2#32
  let v102 : BitVec 32 := Scalar.muli v6 c2_i32_90
  let v103 : BitVec 32 := Scalar.addi c0_i32_91 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v104 : BitVec 32 := Scalar.muli v5 c1_i32_92
  let v105 : BitVec 32 := Scalar.addi v103 v104
  v105.toNat
def k0_dev9 (d0 : Dev nD) : Nat :=
  let c0_i32_115 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_114 : BitVec 32 := 2#32
  let v128 : BitVec 32 := Scalar.muli v2 c2_i32_114
  let v129 : BitVec 32 := Scalar.addi c0_i32_115 v128
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_116 : BitVec 32 := 1#32
  let v130 : BitVec 32 := Scalar.muli v7 c1_i32_116
  let v131 : BitVec 32 := Scalar.addi v129 v130
  v131.toNat
def k0_dev10 (d0 : Dev nD) : Nat :=
  let c0_i32_139 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_138 : BitVec 32 := 2#32
  let v154 : BitVec 32 := Scalar.muli v6 c2_i32_138
  let v155 : BitVec 32 := Scalar.addi c0_i32_139 v154
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v156 : BitVec 32 := Scalar.muli v5 c1_i32_140
  let v157 : BitVec 32 := Scalar.addi v155 v156
  v157.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩
abbrev S2x512x2x512 : Shape := ⟨4, ![2, 512, 2, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2x512x2x512, .f32⟩
  | .hbm, ⟨2, _⟩ => ⟨S_, .f32⟩
  | .hbm, ⟨3, _⟩ => ⟨S512x512, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Views.lean ====
/-
# The two-step all-reduce on a 2×2 mesh: devices, views, contents

Device `c` of the four has two neighbours: `xn c`, the other device of its column of the mesh, and `yn c`, the other
device of its row. Its 512×512 block is cut in four bands of 128 rows. Bands 0 and 1 are first exchanged with `xn c`,
added, and the sums exchanged with `yn c` and added again; bands 2 and 3 go the other way round. Each of the eight
exchanges has a slot of the communication buffer, a send semaphore and a receive semaphore of its own: slots 0 to 3 for
the first step, 4 to 7 for the second, slot `s` carrying band `s % 4`.

This module names the devices, the bands and slots as views of their buffers, the semaphores, and the contents that
every buffer holds at each stage as functions of the four devices' blocks; it proves the facts about values the
run needs (`landing_x` and `landing_o`, `add_first`, `add_second`) and that bands and slots partition their buffers.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.AllReduce

open Cert.KernelIdeal Cert.KernelIdeal.Gen
open Idealize.ShloMosaic
open Idealize.ShloMosaic.TcCoe
open Idealize.ShloMosaic.ValueIdx

variable {F : FTy → Type} [FloatOps F]

/-! ## The devices -/

/-- The neighbour of `c` along the mesh's first axis: devices are numbered `2 x + y`, and this one flips `x`. -/
def xn (c : Dev nD) : Dev nD := ![2, 3, 0, 1] c
/-- The neighbour of `c` along the mesh's second axis: it flips `y`. -/
def yn (c : Dev nD) : Dev nD := ![1, 0, 3, 2] c

/-- The first-axis neighbour of the first-axis neighbour is the device itself. -/
theorem xn_xn (c : Dev nD) : xn (xn c) = c := by revert c; decide
/-- The second-axis neighbour of the second-axis neighbour is the device itself. -/
theorem yn_yn (c : Dev nD) : yn (yn c) = c := by revert c; decide

/-- The neighbour along the first axis (`false`) or the second (`true`). -/
def nb (d : Bool) (c : Dev nD) : Dev nD := if d then yn c else xn c
/-- Along either axis, the neighbour of the neighbour is the device itself. -/
theorem nb_nb (d : Bool) (c : Dev nD) : nb d (nb d c) = c := by revert d c; decide
/-- A neighbour relation read as a rearrangement of the four devices. -/
def nbEquiv (d : Bool) : Dev nD ≃ Dev nD := ⟨nb d, nb d, nb_nb d, nb_nb d⟩

/-- The axis slot `s` is exchanged along. -/
def side (s : Fin 8) : Bool := ![false, false, true, true, true, true, false, false] s
/-- The device that device `c` exchanges slot `s` with. -/
abbrev peer (s : Fin 8) (c : Dev nD) : Dev nD := nb (side s) c
/-- The exchange of a slot is mutual: the peer's peer is the device itself. -/
theorem peer_peer (s : Fin 8) (c : Dev nD) : peer s (peer s c) = c := nb_nb _ c

/-- The band of rows slot `s` carries. -/
def band (s : Fin 8) : Fin 4 := ⟨s.val % 4, Nat.mod_lt _ (by decide)⟩
/-- The first-step slot of band `q`. -/
def slotA (q : Fin 4) : Fin 8 := ⟨q.val, by omega⟩
/-- The second-step slot of band `q`. -/
def slotB (q : Fin 4) : Fin 8 := ⟨q.val + 4, by omega⟩

/-- The first-step slot of band `q` carries band `q`. -/
theorem band_slotA (q : Fin 4) : band (slotA q) = q := by revert q; decide
/-- The second-step slot of band `q` carries band `q`. -/
theorem band_slotB (q : Fin 4) : band (slotB q) = q := by revert q; decide

/-! ## The views -/

/-- The input block's buffer, whole. -/
abbrev xM : Memref sig .tc .vmem S512x512 .f32 := Memref.whole cc0_stg0_0
/-- The output block's buffer, whole. -/
abbrev oM : Memref sig .tc .vmem S512x512 .f32 := Memref.whole cc0_stg1_0
/-- The communication buffer, whole. -/
abbrev cM : Memref sig .tc .vmem S8x128x512 .f32 := Memref.whole cc0_scratch0

/-- A band lies inside its 512×512 buffer. -/
theorem row_inb (q : Fin 4) : ∀ a, (![128 * q.val, 0] : Fin 2 → Nat) a + S128x512.size a ≤ S512x512.size a :=
  Rect.inb₂ (by show 128 * q.val + 128 ≤ 512; omega) (by show 0 + 512 ≤ 512; omega)
/-- A slot lies inside the communication buffer. -/
theorem slot_inb (s : Fin 8) : ∀ a, (![s.val, 0, 0] : Fin 3 → Nat) a + S1x128x512.size a ≤ S8x128x512.size a := by
  intro a
  fin_cases a
  · show s.val + 1 ≤ 8; omega
  · show 0 + 128 ≤ 128; omega
  · show 0 + 512 ≤ 512; omega

/-- Band `q`'s rectangle of a 512×512 buffer. -/
abbrev rowR (q : Fin 4) : Rect S512x512 := Rect.unit (s := S512x512) ![128 * q.val, 0] S128x512.size (row_inb q)
/-- Slot `s`'s rectangle of the communication buffer. -/
abbrev slotR (s : Fin 8) : Rect S8x128x512 := Rect.unit (s := S8x128x512) ![s.val, 0, 0] S1x128x512.size (slot_inb s)

/-- Band `q` of a 512×512 buffer, as the transfers name it. -/
abbrev row (b : Memref sig .tc .vmem S512x512 .f32) (q : Fin 4) : Memref sig .tc .vmem S128x512 .f32 := b.slice (rowR q) (fun _ => rfl)
/-- Slot `s` of the communication buffer, as the transfers name it. -/
abbrev slot (s : Fin 8) : Memref sig .tc .vmem S128x512 .f32 :=
  (cM.slice (slotR s) (fun _ => rfl)).squeeze S128x512 squeezes_S1x128x512_S128x512

/-- The barrier semaphore. -/
abbrev barS : Sem sig := (SemArray.scalar (sig.barrier 0 rfl) : Sems sig S_).sem
/-- The send semaphore of slot `s`. -/
def sendS (s : Fin 8) : DmaSem sig := (⟨2 + s.val, by omega⟩ : Fin 18)
/-- The receive semaphore of slot `s`. -/
def recvS (s : Fin 8) : DmaSem sig := (⟨10 + s.val, by omega⟩ : Fin 18)

/-- What a transfer of one band credits. -/
def N : ℕ := (slot 0).view.dmaCredit
/-- A transfer credits something. -/
theorem N_pos : 0 < N := View.dmaCredit_pos _ (by decide)
/-- Every slot, as a destination, is worth the same credit. -/
theorem credit_slot (s : Fin 8) : (slot s).view.dmaCredit = N := rfl
/-- Every band of the input, as a source, is worth that credit. -/
theorem credit_row_x (q : Fin 4) : (row xM q).view.dmaCredit = N := rfl
/-- Every band of the output, as a source, is worth that credit. -/
theorem credit_row_o (q : Fin 4) : (row oM q).view.dmaCredit = N := rfl

/-! ## Where the views sit -/

/-- Band `q` starts at row `128 q`. -/
theorem rowR_emb (q : Fin 4) (i : Fin 128) (j : Fin 512) :
    (rowR q).emb (ix2 i j : S128x512.Idx) = (ix2 ⟨128 * q.val + i.val, by omega⟩ j : S512x512.Idx) := by
  funext a
  fin_cases a
  · exact Fin.ext (by show 128 * q.val + 1 * i.val = 128 * q.val + i.val; omega)
  · exact Fin.ext (by show 0 + 1 * j.val = j.val; omega)

/-- Entry `(0, i, j)` of slot `s`'s rectangle is entry `(s, i, j)` of the communication buffer. -/
theorem slotR_emb (s : Fin 8) (i : Fin 128) (j : Fin 512) :
    (slotR s).emb (ix3 (0 : Fin 1) i j : S1x128x512.Idx) = (ix3 s i j : S8x128x512.Idx) := by
  funext a
  fin_cases a
  · exact Fin.ext (by show s.val + 1 * 0 = s.val; omega)
  · exact Fin.ext (by show 0 + 1 * i.val = i.val; omega)
  · exact Fin.ext (by show 0 + 1 * j.val = j.val; omega)

/-- Entry `(i, j)` of slot `s`, seen as a band, is entry `(s, i, j)` of the communication buffer. -/
theorem slot_emb (s : Fin 8) (i : Fin 128) (j : Fin 512) :
    (slot s).view.emb (ix2 i j : S128x512.Idx) = (ix3 s i j : S8x128x512.Idx) := by
  show (slotR s).emb (Shape.reshapeEquiv _ (ix2 i j : S128x512.Idx)) = _
  rw [reshapeEquiv_ix2_1ab]
  exact slotR_emb s i j

/-! ## The element sets -/

/-- Band `q`'s elements of a 512×512 buffer. -/
def rowSet (q : Fin 4) : Finset S512x512.Idx := (rowR q).set
/-- Slot `s`'s elements of the communication buffer. -/
def slotSet (s : Fin 8) : Finset S8x128x512.Idx := (slotR s).set

/-- An element belongs to band `q` when its row is one of the band's 128. -/
theorem mem_rowSet {q : Fin 4} {i : S512x512.Idx} : i ∈ rowSet q ↔ 128 * q.val ≤ (i 0).val ∧ (i 0).val < 128 * q.val + 128 := by
  unfold rowSet
  rw [Rect.mem_set_unit]
  constructor
  · intro h; exact h 0
  · intro h a
    fin_cases a
    · exact h
    · exact ⟨Nat.zero_le _, by have := (i 1).isLt; show (i 1).val < 0 + 512; simpa using this⟩

/-- An element belongs to slot `s` when its first coordinate is `s`. -/
theorem mem_slotSet {s : Fin 8} {i : S8x128x512.Idx} : i ∈ slotSet s ↔ i 0 = s := by
  unfold slotSet
  rw [Rect.mem_set_unit]
  constructor
  · intro h; have := h 0; exact Fin.ext (by have h1 : s.val ≤ (i 0).val := this.1; have h2 : (i 0).val < s.val + 1 := this.2; omega)
  · intro h a
    fin_cases a
    · exact ⟨by show s.val ≤ (i 0).val; rw [h], by show (i 0).val < s.val + 1; rw [h]; omega⟩
    · exact ⟨Nat.zero_le _, by have := (i 1).isLt; show (i 1).val < 0 + 128; simpa using this⟩
    · exact ⟨Nat.zero_le _, by have := (i 2).isLt; show (i 2).val < 0 + 512; simpa using this⟩

/-- The elements of band `q` of the input block. -/
theorem row_x_set (q : Fin 4) : (row xM q).view.set = rowSet q := View.set_slice_whole _ _
/-- The elements of band `q` of the output block. -/
theorem row_o_set (q : Fin 4) : (row oM q).view.set = rowSet q := View.set_slice_whole _ _
/-- The elements of slot `s`. -/
theorem slot_set (s : Fin 8) : (slot s).view.set = slotSet s := by
  show ((View.whole cc0_scratch0).slice (slotR s) |>.reshape S128x512 _).set = _
  rw [View.set_reshape, View.set_slice_whole]; rfl

/-- Different bands have no element in common. -/
theorem rowSet_disjoint : ∀ q ∈ (Finset.univ : Finset (Fin 4)), ∀ q' ∈ (Finset.univ : Finset (Fin 4)), q ≠ q' → Disjoint (rowSet q) (rowSet q') := by
  intro q _ q' _ h
  rw [Finset.disjoint_left]
  intro i hi hi'
  rw [mem_rowSet] at hi hi'
  exact h (Fin.ext (by omega))

/-- Different slots have no element in common. -/
theorem slotSet_disjoint : ∀ s ∈ (Finset.univ : Finset (Fin 8)), ∀ s' ∈ (Finset.univ : Finset (Fin 8)), s ≠ s' → Disjoint (slotSet s) (slotSet s') := by
  intro s _ s' _ h
  rw [Finset.disjoint_left]
  intro i hi hi'
  rw [mem_slotSet] at hi hi'
  exact h (hi.symm.trans hi')

/-- The four bands make up the block. -/
theorem rowSet_cover : (Finset.univ : Finset (Fin 4)).biUnion rowSet = Finset.univ := by
  ext i
  simp only [Finset.mem_biUnion, Finset.mem_univ, true_and, iff_true]
  have hi : (i 0).val < 512 := (i 0).isLt
  exact ⟨⟨(i 0).val / 128, by omega⟩, mem_rowSet.mpr ⟨by show 128 * ((i 0).val / 128) ≤ _; omega, by show _ < 128 * ((i 0).val / 128) + 128; omega⟩⟩

/-- The eight slots make up the communication buffer. -/
theorem slotSet_cover : (Finset.univ : Finset (Fin 8)).biUnion slotSet = Finset.univ := by
  ext i
  simp only [Finset.mem_biUnion, Finset.mem_univ, true_and, iff_true]
  exact ⟨i 0, mem_slotSet.mpr rfl⟩

/-- An element of band `q` is at some row `i` of the band and some column `j`. -/
theorem exists_of_mem_rowSet {q : Fin 4} {i : S512x512.Idx} (h : i ∈ rowSet q) :
    ∃ (a : Fin 128) (b : Fin 512), i = (ix2 ⟨128 * q.val + a.val, by omega⟩ b : S512x512.Idx) := by
  rw [mem_rowSet] at h
  refine ⟨⟨(i 0).val - 128 * q.val, by omega⟩, i 1, ?_⟩
  funext a
  fin_cases a
  · exact Fin.ext (by show (i 0).val = 128 * q.val + ((i 0).val - 128 * q.val); omega)
  · rfl

/-- An element of slot `s` is at some row and some column of the slot. -/
theorem exists_of_mem_slotSet {s : Fin 8} {i : S8x128x512.Idx} (h : i ∈ slotSet s) :
    ∃ (a : Fin 128) (b : Fin 512), i = (ix3 s a b : S8x128x512.Idx) := by
  rw [mem_slotSet] at h
  subst h
  refine ⟨i 1, i 2, ?_⟩
  funext a
  fin_cases a <;> rfl

/-! ## The contents -/

variable (m : (ℓ : Loc nD τ sig) → Buf (Elt F) ℓ)

/-- The contents of a 512×512 buffer. -/
abbrev Block (F : FTy → Type) : Type := S512x512.Idx → F .f32
/-- The contents of the communication buffer. -/
abbrev Comm (F : FTy → Type) : Type := S8x128x512.Idx → F .f32

/-- Device `c`'s block of the input, as its staging buffer holds it. -/
def X (c : Dev nD) : Block F := (win0_0.blk (0 : Fin 1)).view.read (Elt F) (m ((c : Thread nD τ).loc main_arg0))

/-- The band a row of the block belongs to. -/
def bandOf (i : S512x512.Idx) : Fin 4 := ⟨(i 0).val / 128, by have : (i 0).val < 512 := (i 0).isLt; omega⟩

/-- After the first step: the block plus that of the first neighbour the band is exchanged with. -/
def Y (c : Dev nD) : Block F := fun i => FloatOps.addf (X m c i) (X m (peer (slotA (bandOf i)) c) i)
/-- After the second step: the first step's sum plus that of the band's second neighbour. -/
def Z (c : Dev nD) : Block F := fun i => FloatOps.addf (Y m c i) (Y m (peer (slotB (bandOf i)) c) i)

/-- What device `c` sends in slot `s`: rows of its block in the first step, of its first sums in the second. -/
def sent (s : Fin 8) (c : Dev nD) : Block F := if s.val < 4 then X m c else Y m c

/-- What device `c`'s communication buffer holds once every slot has landed. -/
def landed (c : Dev nD) : Comm F := fun j =>
  sent m (j 0) (peer (j 0) c) (ix2 ⟨128 * (band (j 0)).val + (j 1).val, by have h1 : (j 1).val < 128 := (j 1).isLt; have := (band (j 0)).isLt; omega⟩ (j 2) : S512x512.Idx)

/-- Row `128 q + a` is in band `q`. -/
theorem bandOf_ix2 (q : Fin 4) (a : Fin 128) (b : Fin 512) : bandOf (ix2 ⟨128 * q.val + a.val, by omega⟩ b : S512x512.Idx) = q :=
  Fin.ext (by show (128 * q.val + a.val) / 128 = q.val; omega)

/-- Entry `(s, a, b)` of the landed contents is what the peer sent from row `a` of the slot's band. -/
theorem landed_ix3 (c : Dev nD) (s : Fin 8) (a : Fin 128) (b : Fin 512) :
    landed m c (ix3 s a b : S8x128x512.Idx) = sent m s (peer s c) (ix2 ⟨128 * (band s).val + a.val, by have := (band s).isLt; omega⟩ b : S512x512.Idx) := rfl

/-! ## The values -/

/-- Entry `(a, b)` read through band `q` of the input is entry `(128 q + a, b)` of the block. -/
theorem read_row_x (q : Fin 4) (f : Block F) (a : Fin 128) (b : Fin 512) :
    (row xM q).view.read (Elt F) f (ix2 a b : S128x512.Idx) = f (ix2 ⟨128 * q.val + a.val, by omega⟩ b : S512x512.Idx) := by
  show f ((rowR q).emb (ix2 a b : S128x512.Idx)) = _
  rw [rowR_emb]
/-- Entry `(a, b)` read through band `q` of the output is entry `(128 q + a, b)` of the block. -/
theorem read_row_o (q : Fin 4) (f : Block F) (a : Fin 128) (b : Fin 512) :
    (row oM q).view.read (Elt F) f (ix2 a b : S128x512.Idx) = f (ix2 ⟨128 * q.val + a.val, by omega⟩ b : S512x512.Idx) := by
  show f ((rowR q).emb (ix2 a b : S128x512.Idx)) = _
  rw [rowR_emb]

/-- A slot written with the band `w` holds `g` on its elements, if `g` there is `w`. -/
theorem write_slot (s : Fin 8) (fd g : Comm F) (w : S128x512.Idx → F .f32)
    (h : ∀ (a : Fin 128) (b : Fin 512), w (ix2 a b : S128x512.Idx) = g (ix3 s a b : S8x128x512.Idx)) :
    ∀ i ∈ (slot s).view.set, (slot s).view.write (Elt F) fd w Finset.univ i = g i := by
  intro i hi
  rw [slot_set] at hi
  obtain ⟨a, b, rfl⟩ := exists_of_mem_slotSet hi
  have := View.write_emb_of_mem (v := (slot s).view) (Val := Elt F) fd w (Finset.mem_univ (ix2 a b : S128x512.Idx))
  rw [slot_emb] at this
  rw [this, ← h a b]; rfl

/-- A first-step transfer of slot `s` from device `c` leaves the slot on its peer as `landed` says. -/
theorem landing_x (s : Fin 8) (hs : s.val < 4) (c : Dev nD) (fd : Comm F) :
    ∀ i ∈ (slot s).view.set, (slot s).view.write (Elt F) fd ((row xM (band s)).view.read (Elt F) (X m c)) Finset.univ i = landed m (peer s c) i :=
  write_slot s fd _ _ fun a b => by rw [read_row_x, landed_ix3, peer_peer, sent, if_pos hs]
/-- A second-step transfer of slot `s` from device `c` does so too. -/
theorem landing_o (s : Fin 8) (hs : ¬ s.val < 4) (c : Dev nD) (fd : Comm F) :
    ∀ i ∈ (slot s).view.set, (slot s).view.write (Elt F) fd ((row oM (band s)).view.read (Elt F) (Y m c)) Finset.univ i = landed m (peer s c) i :=
  write_slot s fd _ _ fun a b => by rw [read_row_o, landed_ix3, peer_peer, sent, if_neg hs]

/-- What one addition stores: band `q` of a block plus a slot. -/
theorem pay_apply (u : S128x512.Idx → F .f32) (v : S1x128x512.Idx → F .f32) (a : Fin 128) (b : Fin 512) :
    k0_pay1 (F := F) u v (ix2 a b : S128x512.Idx) = FloatOps.addf (u (ix2 a b : S128x512.Idx)) (v (ix3 (0 : Fin 1) a b : S1x128x512.Idx)) := by
  show FloatOps.addf (shapeCast S128x512 u _ (ix2 a b : S128x512.Idx)) (shapeCast S128x512 v _ (ix2 a b : S128x512.Idx)) = _
  congr 1
  · exact shapeCast_apply u _ _ _ rfl
  · exact shapeCast_1ab_ab_apply v _ a b

/-- The band `q` of the output buffer after a store of the payload `w` holds `g`, if `g` there is `w`. -/
theorem store_row (q : Fin 4) (f g : Block F) (w : S128x512.Idx → F .f32)
    (h : ∀ (a : Fin 128) (b : Fin 512), w (ix2 a b : S128x512.Idx) = g (ix2 ⟨128 * q.val + a.val, by omega⟩ b : S512x512.Idx)) :
    ∀ i ∈ rowSet q, (oM.access (rowR q) : View sig .tc _ _ _).write (Elt F) f w Finset.univ i = g i := by
  intro i hi
  obtain ⟨a, b, rfl⟩ := exists_of_mem_rowSet hi
  have := View.write_emb_of_mem (v := (oM.access (rowR q) : View sig .tc _ _ _)) (Val := Elt F) f w (Finset.mem_univ (ix2 a b : S128x512.Idx))
  rw [show (oM.access (rowR q) : View sig .tc _ _ _).emb (ix2 a b : S128x512.Idx) = _ from rowR_emb q a b] at this
  rw [this, ← h a b]; rfl

/-- A load of band `q` of the input gives at `(a, b)` entry `(128 q + a, b)` of the block. -/
theorem load_x (q : Fin 4) (f : Block F) (a : Fin 128) (b : Fin 512) :
    xM.view.readAt (Elt F) (rowR q).toLoadRect f (ix2 a b : S128x512.Idx) = f (ix2 ⟨128 * q.val + a.val, by omega⟩ b : S512x512.Idx) := by
  show f ((rowR q).emb (ix2 a b : S128x512.Idx)) = _
  rw [rowR_emb]
/-- A load of band `q` of the output gives at `(a, b)` entry `(128 q + a, b)` of the block. -/
theorem load_o (q : Fin 4) (f : Block F) (a : Fin 128) (b : Fin 512) :
    oM.view.readAt (Elt F) (rowR q).toLoadRect f (ix2 a b : S128x512.Idx) = f (ix2 ⟨128 * q.val + a.val, by omega⟩ b : S512x512.Idx) := by
  show f ((rowR q).emb (ix2 a b : S128x512.Idx)) = _
  rw [rowR_emb]
/-- A load of slot `s` gives at `(0, a, b)` entry `(s, a, b)` of the communication buffer. -/
theorem load_c (s : Fin 8) (f : Comm F) (a : Fin 128) (b : Fin 512) :
    cM.view.readAt (Elt F) (slotR s).toLoadRect f (ix3 (0 : Fin 1) a b : S1x128x512.Idx) = f (ix3 s a b : S8x128x512.Idx) := by
  show f ((slotR s).emb (ix3 (0 : Fin 1) a b : S1x128x512.Idx)) = _
  rw [slotR_emb]

/-- The first step's addition of band `q` leaves `Y` there. -/
theorem add_first (q : Fin 4) (c : Dev nD) (f : Block F) :
    ∀ i ∈ rowSet q, (oM.access (rowR q) : View sig .tc _ _ _).write (Elt F) f
      (k0_pay1 (F := F) (xM.view.readAt (Elt F) (rowR q).toLoadRect (X m c)) (cM.view.readAt (Elt F) (slotR (slotA q)).toLoadRect (landed m c))) Finset.univ i
        = Y m c i :=
  store_row q f _ _ fun a b => by
    rw [pay_apply, load_x, load_c, landed_ix3, Y, bandOf_ix2, sent, if_pos (show (slotA q).val < 4 from q.isLt)]
    simp only [band_slotA]

/-- The second step's addition of band `q` leaves `Z` there. -/
theorem add_second (q : Fin 4) (c : Dev nD) (f : Block F) :
    ∀ i ∈ rowSet q, (oM.access (rowR q) : View sig .tc _ _ _).write (Elt F) f
      (k0_pay1 (F := F) (oM.view.readAt (Elt F) (rowR q).toLoadRect (Y m c)) (cM.view.readAt (Elt F) (slotR (slotB q)).toLoadRect (landed m c))) Finset.univ i
        = Z m c i :=
  store_row q f _ _ fun a b => by
    rw [pay_apply, load_o, load_c, landed_ix3, Z, bandOf_ix2, sent, if_neg (show ¬ (slotB q).val < 4 from by show ¬ q.val + 4 < 4; omega)]
    simp only [band_slotB]

end Cert.AllReduce

end
-- ==== Proof.Protocol.lean ====
/-
# The two-step all-reduce on a 2×2 mesh: the protocol

The transfers under the rounds library (`Lib/Rounds.lean`). Every device has seventeen cells of one round each:

* the barrier cell, with one duty for each neighbour, of one unit each. A neighbour's signal hands over those slots of
  its communication buffer that this device is going to write;
* for each slot a send cell, whose round hands back the band of rows that was being read;
* for each slot a receive cell, whose round hands over the slot, holding what the peer sent.

A device owes the two barrier units and the credit of its eight transfers. The levels order the waits: barrier below the
first step's receive cells, those below the second step's.
-/
module

public import proofs.«01_k».proof.Proof.Views

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's, whose duties are named by `Bool` -/

/-- The protocol's ghost state: rounds at the semaphores, with duties named by `Bool`. -/
abbrev UB : Type := URounds (GSem nD τ sig) Bool
/-- The ghost state of the proof: the pipeline's rounds and the protocol's. -/
abbrev UU : Type := UR sig nD τ × UB

local notation "𝕄" => MT nD τ sig Unit (Elt F) ℕ UU ℕ

/-- Where the pipeline's rounds sit in the whole. -/
abbrev EP : Emb (UR sig nD τ) (MT nD τ sig Unit (Elt F) ℕ UU ℕ) := embL
/-- Where the protocol's rounds sit in the whole. -/
abbrev ER : Emb UB (MT nD τ sig Unit (Elt F) ℕ UU ℕ) := embR

variable (m : (ℓ : Loc nD τ sig) → Buf (Elt F) ℓ)

/-! ## The cells -/

/-- The barrier semaphore of device `c`. -/
abbrev barCell (c : Dev nD) : GSem nD τ sig := ((c : Thread nD τ), .reg barS)
/-- The send semaphore of slot `s` on device `c`. -/
abbrev sendCell (s : Fin 8) (c : Dev nD) : GSem nD τ sig := ((c : Thread nD τ), .dma (sendS s))
/-- The receive semaphore of slot `s` on device `c`. -/
abbrev recvCell (s : Fin 8) (c : Dev nD) : GSem nD τ sig := ((c : Thread nD τ), .dma (recvS s))

/-- The slot a DMA semaphore of the scratch belongs to. -/
def slotOf (q : DmaSem sig) : Fin 8 := ⟨(q.val + 6) % 8, Nat.mod_lt _ (by decide)⟩
/-- Whether a DMA semaphore of the scratch is a receive semaphore. -/
def isRecv (q : DmaSem sig) : Prop := 10 ≤ q.val
/-- Which of the two it is can be decided. -/
instance (q : DmaSem sig) : Decidable (isRecv q) := by unfold isRecv; infer_instance

/-- The send semaphore of slot `s` belongs to slot `s`. -/
theorem slotOf_sendS (s : Fin 8) : slotOf (sendS s) = s := by revert s; decide
/-- The receive semaphore of slot `s` belongs to slot `s`. -/
theorem slotOf_recvS (s : Fin 8) : slotOf (recvS s) = s := by revert s; decide
/-- A receive semaphore is one. -/
theorem isRecv_recvS (s : Fin 8) : isRecv (recvS s) := by revert s; decide
/-- A send semaphore is not a receive semaphore. -/
theorem not_isRecv_sendS (s : Fin 8) : ¬ isRecv (sendS s) := by revert s; decide
/-- Different slots have different receive semaphores. -/
theorem recvS_injective {s s' : Fin 8} (h : recvS s = recvS s') : s = s' := by rw [← slotOf_recvS s, h, slotOf_recvS]

/-! ## What the buffers hold -/

/-- Slot `s` of device `c`'s communication buffer, with the contents of `f` there. -/
def slotPts (s : Fin 8) (c : Dev nD) (f : Comm F) : sProp 𝕄 :=
  (slot s).view.loc (c : Thread nD τ) ↦[(slot s).view.set]{fullShare} f
/-- The share `p` of band `q` of device `c`'s input block. -/
def xPts (p : PosShare TreeShare) (q : Fin 4) (c : Dev nD) : sProp 𝕄 :=
  (row xM q).view.loc (c : Thread nD τ) ↦[(row xM q).view.set]{p} X m c
/-- Band `q` of device `c`'s output block, with the contents of `f` there. -/
def oPts (q : Fin 4) (c : Dev nD) (f : Block F) : sProp 𝕄 :=
  (row oM q).view.loc (c : Thread nD τ) ↦[(row oM q).view.set]{fullShare} f

/-- A slot can be a cell's payload. -/
instance slotPts_storable (s : Fin 8) (c : Dev nD) (f : Comm F) : BI.Storable (upEmb : UEmb _ 𝕄) (slotPts (F := F) s c f) := by unfold slotPts; infer_instance
/-- A share of a band of the input can be a cell's payload. -/
instance xPts_storable (p : PosShare TreeShare) (q : Fin 4) (c : Dev nD) : BI.Storable (upEmb : UEmb _ 𝕄) (xPts (F := F) m p q c) := by unfold xPts; infer_instance
/-- A band of the output can be a cell's payload. -/
instance oPts_storable (q : Fin 4) (c : Dev nD) (f : Block F) : BI.Storable (upEmb : UEmb _ 𝕄) (oPts (F := F) q c f) := by unfold oPts; infer_instance

/-! ## The schedule -/

/-- The slots exchanged along axis `d`. -/
def slotsOn (d : Bool) : Finset (Fin 8) := Finset.univ.filter (fun s => side s = d)

/-- The neighbour along axis `d` hands `c` its slots of that axis. -/
def barPay (d : Bool) (c : Dev nD) : sProp 𝕄 := bigSep (slotsOn d) fun s => iprop(∃ f, slotPts s (nb d c) f)
/-- A slot that has landed. -/
def recvPay (s : Fin 8) (c : Dev nD) : sProp 𝕄 := slotPts s c (landed m c)
/-- What a finished transfer gives back: in the first step half of a band of the input, in the second a band of the output. -/
def sendPay (s : Fin 8) (c : Dev nD) : sProp 𝕄 := if s.val < 4 then xPts m fullShare.left (band s) c else oPts (band s) c (Y m c)

/-- One round per cell: a barrier cell has both duties, of one unit; a transfer's cell has the duty `false`, of the band's credit. -/
def sched : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with
    | .reg _ => barPay d g.1.1
    | .dma q => if isRecv q then recvPay m (slotOf q) g.1.1 else sendPay m (slotOf q) g.1.1
  amount_pos g _ _ _ := by
    rcases g with ⟨_, _ | _⟩
    · exact Nat.one_pos
    · exact N_pos

/-- Every payload of the schedule can be held by a cell's invariant. -/
instance sched_payload_storable (g : GSem nD τ sig) (r : ℕ) (d : Bool) : BI.Storable (upEmb : UEmb _ 𝕄) ((sched (F := F) m).payload g r d) := by
  rcases g with ⟨t, _ | q⟩
  · show BI.Storable upEmb (barPay d t.1)
    unfold barPay; infer_instance
  · show BI.Storable upEmb (if isRecv q then recvPay m (slotOf q) t.1 else sendPay m (slotOf q) t.1)
    unfold recvPay sendPay
    (repeat' split) <;> infer_instance

section Sched
variable (c : Dev nD) (s : Fin 8) (d : Bool)

/-- A barrier cell has both duties. -/
theorem duties_bar : (sched (F := F) m).duties (barCell c) 0 = Finset.univ := rfl
/-- A send cell has one duty. -/
theorem duties_send : (sched (F := F) m).duties (sendCell s c) 0 = {false} := rfl
/-- A receive cell has one duty. -/
theorem duties_recv : (sched (F := F) m).duties (recvCell s c) 0 = {false} := rfl
/-- After round 0 there is nothing to do at any cell. -/
theorem duties_later (g : GSem nD τ sig) : ∀ r, 1 ≤ r → (sched (F := F) m).duties g r = ∅ :=
  fun r hr => by dsimp only [sched]; exact if_neg (by omega)

/-- A duty at the barrier is one unit. -/
theorem amount_bar : (sched (F := F) m).amount (barCell c) 0 d = 1 := rfl
/-- The duty at a send cell is a band's credit. -/
theorem amount_send : (sched (F := F) m).amount (sendCell s c) 0 d = N := rfl
/-- The duty at a receive cell is a band's credit. -/
theorem amount_recv : (sched (F := F) m).amount (recvCell s c) 0 d = N := rfl

/-- A barrier cell's round is complete at two units. -/
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
/-- A send cell's round is complete at a band's credit. -/
theorem expect_send : (sched (F := F) m).expect (sendCell s c) 0 = N := by
  unfold Schedule.expect Schedule.amountOf; rw [duties_send, Finset.sum_singleton, amount_send]
/-- A receive cell's round is complete at a band's credit. -/
theorem expect_recv : (sched (F := F) m).expect (recvCell s c) 0 = N := by
  unfold Schedule.expect Schedule.amountOf; rw [duties_recv, Finset.sum_singleton, amount_recv]

/-- The barrier's duty `d` hands over the slots of axis `d` on the neighbour along it. -/
theorem payload_bar : (sched (F := F) m).payload (barCell c) 0 d = barPay d c := rfl
/-- A send cell's duty gives the transfer's source back. -/
theorem payload_send : (sched (F := F) m).payload (sendCell s c) 0 d = sendPay m s c := by
  show (if isRecv (sendS s) then _ else sendPay m (slotOf (sendS s)) c) = _
  rw [if_neg (not_isRecv_sendS s), slotOf_sendS]
/-- A receive cell's duty gives the slot, landed. -/
theorem payload_recv : (sched (F := F) m).payload (recvCell s c) 0 d = recvPay m s c := by
  show (if isRecv (recvS s) then recvPay m (slotOf (recvS s)) c else _) = _
  rw [if_pos (isRecv_recvS s), slotOf_recvS]

/-- All the slots, by the axis they are exchanged along. -/
theorem bigSep_sides (Φ : Fin 8 → sProp 𝕄) : bigSep Finset.univ Φ = iprop(bigSep (slotsOn false) Φ ∗ bigSep (slotsOn true) Φ) := by
  rw [show (Finset.univ : Finset (Fin 8)) = slotsOn false ∪ slotsOn true from by decide]
  exact BI.bigSep_union (show Disjoint (slotsOn false) (slotsOn true) by decide)

/-- The barrier's round hands over, for every slot, the peer's. -/
theorem rest_bar : bigSep ((sched (F := F) m).duties (barCell c) 0 \ ∅) (fun d => (sched (F := F) m).payload (barCell c) 0 d)
    = bigSep Finset.univ fun s : Fin 8 => iprop(∃ f, slotPts s (peer s c) f) := by
  rw [Finset.sdiff_empty, duties_bar, bigSep_univ_eq_bigSepL [false, true] (by decide) (by decide), bigSepL_cons_cons, bigSepL_singleton,
    payload_bar, payload_bar, bigSep_sides]
  unfold barPay
  have h (d : Bool) : (bigSep (slotsOn d) fun s => iprop(∃ f, slotPts s (nb d c) f) : sProp 𝕄) = bigSep (slotsOn d) fun s => iprop(∃ f, slotPts s (peer s c) f) :=
    bigSep_congr fun s hs => by rw [peer, (Finset.mem_filter.mp hs).2]
  rw [h, h]; rfl
/-- The round of a send cell hands over the transfer's source. -/
theorem rest_send : bigSep ((sched (F := F) m).duties (sendCell s c) 0 \ ∅) (fun d => (sched (F := F) m).payload (sendCell s c) 0 d) = sendPay m s c := by
  rw [Finset.sdiff_empty, duties_send, bigSep_singleton, payload_send]
/-- The round of a receive cell hands over the slot, landed. -/
theorem rest_recv : bigSep ((sched (F := F) m).duties (recvCell s c) 0 \ ∅) (fun d => (sched (F := F) m).payload (recvCell s c) 0 d) = recvPay m s c := by
  rw [Finset.sdiff_empty, duties_recv, bigSep_singleton, payload_recv]

end Sched

/-! ## What is owed, and the levels -/

/-- The credit of the transfers `l`, the first of the list to be sent first. -/
def owedFor : List (Fin 8) → Dev nD → CellTallies nD τ sig Unit
  | [], _ => 0
  | s :: l, c => owedFor l c + tallyAt (recvCell s (peer s c)) () N

/-- The slots in the order they are sent. -/
def order : List (Fin 8) := [slotA 0, slotA 2, slotA 1, slotA 3, slotB 0, slotB 2, slotB 1, slotB 3]

/-- What a device owes after its first signal: all its transfers, and a barrier unit to the neighbour along the second axis. -/
def O₁ (c : Dev nD) : CellTallies nD τ sig Unit := owedFor order c + tallyAt (barCell (nb true c)) () 1
/-- What a device owes at launch: all its transfers, and a barrier unit to each neighbour. -/
def O₀ (c : Dev nD) : CellTallies nD τ sig Unit := O₁ c + tallyAt (barCell (nb false c)) () 1

/-- The cells with a level: all semaphores of the devices' cores. -/
def L (g : GSem nD τ sig) : Finset Unit := if g.1.2 = .tc then {()} else ∅
/-- A semaphore's level: staging and send semaphores lowest, then the barrier, then first-step and second-step receives. -/
def lvS : SemLoc sig → ℕ
  | .reg _ => 1
  | .dma q => if isRecv q then (if (slotOf q).val < 4 then 2 else 3) else 0
/-- The level of a cell is its semaphore's. -/
def lv (g : GSem nD τ sig) (_ : Unit) : ℕ := lvS g.2

/-- No cell outside the devices' cores has a level. -/
theorem L_of_ne (g : GSem nD τ sig) (h : g.1.2 ≠ .tc) : L g = ∅ := if_neg h
/-- Every cell of a device's core has a level. -/
theorem L_tc (c : Dev nD) (sm : SemLoc sig) : L ((c : Thread nD τ), sm) = {()} := if_pos rfl

/-- A tally at one cell counts nothing at another. -/
theorem tallyAt_pos {g g' : GSem nD τ sig} {k : ℕ} {u : Unit} (h : 0 < (tallyAt g () k : CellTallies nD τ sig Unit) g' u) : g' = g := by
  rw [tallyAt_apply] at h
  by_contra hn
  rw [if_neg (fun h' => hn h'.1)] at h
  exact Nat.lt_irrefl 0 h

/-- Transfers are owed to their peers' receive cells and nowhere else. -/
theorem owedFor_pos {l : List (Fin 8)} {c : Dev nD} {g : GSem nD τ sig} {u : Unit} (h : 0 < owedFor l c g u) : ∃ s ∈ l, g = recvCell s (peer s c) := by
  induction l with
  | nil => exact absurd h (Nat.lt_irrefl 0)
  | cons s l ih =>
    unfold owedFor at h
    rw [Pi.add_apply, Finsupp.add_apply] at h
    rcases Nat.add_pos_iff_pos_or_pos.mp h with h | h
    · obtain ⟨s', hs', e⟩ := ih h; exact ⟨s', List.mem_cons_of_mem _ hs', e⟩
    · exact ⟨s, List.mem_cons_self, tallyAt_pos h⟩

/-- At launch a device owes receive cells of its peers and barrier cells of its neighbours, and nothing else. -/
theorem O₀_pos {c : Dev nD} {g : GSem nD τ sig} {u : Unit} (h : 0 < O₀ c g u) :
    (∃ s, g = recvCell s (peer s c)) ∨ ∃ d, g = barCell (nb d c) := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨s, -, e⟩ := owedFor_pos h; exact .inl ⟨s, e⟩
    · exact .inr ⟨_, tallyAt_pos h⟩
  · exact .inr ⟨_, tallyAt_pos h⟩

/-- The receive semaphores lie above the barrier. -/
theorem lv_recv (s : Fin 8) : 2 ≤ lvS (.dma (recvS s)) := by
  show 2 ≤ if isRecv (recvS s) then (if (slotOf (recvS s)).val < 4 then 2 else 3) else 0
  rw [if_pos (isRecv_recvS s)]; split <;> omega

/-- A wait is allowed while everything owed lies above it. -/
theorem mayWait_of_lt (c : Dev nD) (sm : SemLoc sig) (O : CellTallies nD τ sig Unit)
    (hO : ∀ g u, 0 < O g u → g.1.2 = .tc ∧ lvS sm < lv g u) : (levAts L lv : sProp 𝕄) ⊢ MayWait (c : Thread nD τ) sm () O :=
  MayOwe.of_cut (L := L) (lev := lv) (lvS sm)
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact Nat.le_refl _)
    (fun g u hg => (hO g u hg).2)

/-- The same with transfers alone owed. -/
theorem mayWait (c : Dev nD) (sm : SemLoc sig) (l : List (Fin 8)) (hl : ∀ s ∈ l, lvS sm < lvS (.dma (recvS s))) :
    (levAts L lv : sProp 𝕄) ⊢ MayWait (c : Thread nD τ) sm () (owedFor l c) :=
  mayWait_of_lt c sm _ fun g u hg => by
    obtain ⟨s, hs, rfl⟩ := owedFor_pos hg
    exact ⟨rfl, hl s hs⟩

/-- The staging transfers' waits are below everything. -/
theorem mayWait_stage (c : Dev nD) (sm : SemLoc sig) (h : lvS sm = 0) (O : CellTallies nD τ sig Unit) (hO : O = O₀ c ∨ O = 0) :
    (levAts L lv : sProp 𝕄) ⊢ MayWait (c : Thread nD τ) sm () O := by
  refine mayWait_of_lt c sm O fun g u hg => ?_
  rcases hO with rfl | rfl
  · rw [h]
    rcases O₀_pos hg with ⟨s, rfl⟩ | ⟨d, rfl⟩
    · exact ⟨rfl, Nat.lt_of_lt_of_le (by omega) (lv_recv s)⟩
    · exact ⟨rfl, Nat.one_pos⟩
  · exact absurd hg (Nat.lt_irrefl 0)

/-! ## The cells by one index, and what a device knows of all of them -/

/-- A device's seventeen cells: the barrier's and, at `i + 1`, that of DMA semaphore `2 + i`. -/
def csem : Fin 17 → SemLoc sig := Fin.cases (.reg barS) fun i : Fin 16 => .dma (⟨2 + i.val, by omega⟩ : Fin 18)
/-- A device's cell by its index. -/
abbrev kcell (ck : Dev nD × Fin 17) : GSem nD τ sig := ((ck.1 : Thread nD τ), csem ck.2)

/-- The names of the invariants: any assignment the launch finds. -/
abbrev Names : Type := Dev nD × Fin 17 → ℕ

/-- The index of slot `s`'s send cell. -/
def sendIx (s : Fin 8) : Fin 17 := ⟨s.val + 1, by omega⟩
/-- The index of slot `s`'s receive cell. -/
def recvIx (s : Fin 8) : Fin 17 := ⟨s.val + 9, by omega⟩

/-- The semaphore at `sendIx s` is the send semaphore of slot `s`. -/
theorem csem_send (s : Fin 8) : csem (sendIx s) = .dma (sendS s) := by revert s; decide
/-- The semaphore at `recvIx s` is the receive semaphore of slot `s`. -/
theorem csem_recv (s : Fin 8) : csem (recvIx s) = .dma (recvS s) := by revert s; decide
/-- Different indices name different semaphores. -/
theorem csem_injective : Function.Injective csem := by decide

/-- Every cell's invariant, and every cell's mark that round 0 is reached. -/
def marks (K : Names) : sProp 𝕄 :=
  iprop((bigSep Finset.univ fun ck : Dev nD × Fin 17 => cellInv ER (sched m) (K ck) (kcell ck))
    ∗ (bigSep Finset.univ fun ck : Dev nD × Fin 17 => reached ER (kcell ck) 0))
/-- These, and the levels. -/
def records (K : Names) : sProp 𝕄 := iprop(marks m K ∗ levAts L lv)

/-- Invariants and marks can be kept and shared. -/
instance marks_persistent (K : Names) : BI.Persistent (marks m K) := by unfold marks; infer_instance
/-- So can they together with the levels. -/
instance records_persistent (K : Names) : BI.Persistent (records m K) := by unfold records; infer_instance

/-- The records hold each cell's invariant. -/
theorem inv_at (K : Names) (ck : Dev nD × Fin 17) : records m K ⊢ cellInv ER (sched m) (K ck) (kcell ck) := by
  unfold records marks
  iintro ⟨⟨H, -⟩, -⟩
  iapply (show (bigSep Finset.univ fun ck : Dev nD × Fin 17 => (cellInv ER (sched m) (K ck) (kcell ck) : sProp 𝕄)) ⊢ cellInv ER (sched m) (K ck) (kcell ck) from
    bigSep_elim (Finset.mem_univ ck))
  iexact H
/-- The records hold each cell's mark. -/
theorem reached_at (K : Names) (ck : Dev nD × Fin 17) : records m K ⊢ reached ER (kcell ck) 0 := by
  unfold records marks
  iintro ⟨⟨-, H⟩, -⟩
  iapply (show (bigSep Finset.univ fun ck : Dev nD × Fin 17 => (reached ER (kcell ck) 0 : sProp 𝕄)) ⊢ reached ER (kcell ck) 0 from
    bigSep_elim (Finset.mem_univ ck))
  iexact H

/-- The records hold a barrier cell's invariant. -/
theorem inv_bar (K : Names) (c : Dev nD) : records m K ⊢ cellInv ER (sched m) (K (c, 0)) (barCell c) := inv_at m K (c, 0)
/-- The records hold a send cell's invariant. -/
theorem inv_send (K : Names) (s : Fin 8) (c : Dev nD) : records m K ⊢ cellInv ER (sched m) (K (c, sendIx s)) (sendCell s c) := by
  have := inv_at m K (c, sendIx s); unfold kcell at this; dsimp only at this; rwa [csem_send] at this
/-- The records hold a receive cell's invariant. -/
theorem inv_recv (K : Names) (s : Fin 8) (c : Dev nD) : records m K ⊢ cellInv ER (sched m) (K (c, recvIx s)) (recvCell s c) := by
  have := inv_at m K (c, recvIx s); unfold kcell at this; dsimp only at this; rwa [csem_recv] at this
/-- The records hold a barrier cell's mark. -/
theorem reached_bar (K : Names) (c : Dev nD) : records m K ⊢ reached ER (barCell c) 0 := reached_at m K (c, 0)
/-- The records hold a send cell's mark. -/
theorem reached_send (K : Names) (s : Fin 8) (c : Dev nD) : records m K ⊢ reached ER (sendCell s c) 0 := by
  have := reached_at m K (c, sendIx s); unfold kcell at this; dsimp only at this; rwa [csem_send] at this
/-- The records hold a receive cell's mark. -/
theorem reached_recv (K : Names) (s : Fin 8) (c : Dev nD) : records m K ⊢ reached ER (recvCell s c) 0 := by
  have := reached_at m K (c, recvIx s); unfold kcell at this; dsimp only at this; rwa [csem_recv] at this
/-- The records hold the levels. -/
theorem levels (K : Names) : records m K ⊢ levAts L lv := by
  unfold records
  iintro ⟨-, H⟩; iexact H

end Cert.AllReduce

end
-- ==== Proof.Steps.lean ====
/-
# The two-step all-reduce on a 2×2 mesh: the steps of the body

The body is a sequence of three kinds of step: start a transfer (`sendStep`), wait for a slot to land and add it to a
band (`landStep`), wait for a transfer to have left (`doneStep`). Each is written once as a program fragment for any
band and slot, and proved once for each of its two uses: from the input in the first exchange, from the output in the second.
-/
module

public import proofs.«01_k».proof.Proof.Protocol

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The programs here need no loop variant. -/
abbrev 𝒱₀ : Variants := Variants.none

/-! ## The fragments -/

/-- The programs of a device's core. -/
abbrev Pg (F : FTy → Type) : Type 1 := Prog (TpuEff nD τ sig (Elt F) Λ₀ .tc) PUnit.{1}

/-- Start the transfer of band `q` of `b` to slot `s` of device `n`. -/
def sendStep (b : Memref sig .tc .vmem S512x512 .f32) (q : Fin 4) (s : Fin 8) (n : Dev nD) (k : Pg F) : Pg F :=
  .op (.enqueueDma (row b q) (.remote (Dev.tc n) (slot s) (.dma (sendS s))) (.dma (recvS s)) (View.wordExact_bits rfl)
    ((View.wordExact_bits rfl).reshape _ _) ⟨⟨rfl, Or.inl rfl⟩, trivial⟩) fun _ => k

/-- Wait for slot `s` to have landed, and store into band `q` of the output band `q` of `b` plus the slot. -/
def landStep (b : Memref sig .tc .vmem S512x512 .f32) (q : Fin 4) (s : Fin 8) (k : Pg F) : Pg F :=
  .op (.waitDma2 (recvS s) (row b q) (slot s) (View.wordExact_bits rfl) ((View.wordExact_bits rfl).reshape _ _)) fun _ =>
  .op (.load b (rowR q).toLoadRect (View.loadsAt_vmem h_S128x512)) fun u =>
  .op (.load cM (slotR s).toLoadRect (View.loadsAt_vmem h_S1x128x512)) fun v =>
  .op (.load oM (rowR q).toLoadRect (View.loadsAt_vmem h_S128x512)) fun _ =>
  .op (.store oM (rowR q) (k0_pay1 u v) Finset.univ (View.stores_vmem_bits_univ h_S128x512 rfl) (.inl rfl)) fun _ => k

/-- Wait for the transfer of band `q` of `b` in slot `s` to have left. -/
def doneStep (b : Memref sig .tc .vmem S512x512 .f32) (q : Fin 4) (s : Fin 8) (k : Pg F) : Pg F :=
  .op (.waitDma2 (sendS s) (slot s) (row b q) ((View.wordExact_bits rfl).reshape _ _) (View.wordExact_bits rfl)) fun _ => k

/-! ## What a device holds between the steps -/

/-- What device `c` owes, whatever it has waited on. -/
def owesE (c : Dev nD) (O : CellTallies nD τ sig Unit) : sProp 𝕄 := iprop(∃ W, owes (c : Thread nD τ) O W)

/-- What starting the transfer of slot `s` takes besides its source: the peer's slot, both duties, the send cell's position. -/
def canSend (s : Fin 8) (c : Dev nD) : sProp 𝕄 :=
  iprop((∃ f, slotPts s (peer s c) f) ∗ dutyTok ER (sendCell s c) 0 false ∗ dutyTok ER (recvCell s (peer s c)) 0 false ∗ atPos ER (sendCell s c) 0 ∅ 0)
/-- What waiting for slot `s` takes. -/
def canRecv (s : Fin 8) (c : Dev nD) : sProp 𝕄 := iprop(cred (tallyAt (recvCell s c) () N) ∗ atPos ER (recvCell s c) 0 ∅ 0)
/-- A started transfer. -/
def flying (s : Fin 8) (c : Dev nD) : sProp 𝕄 := iprop(cred (tallyAt (sendCell s c) () N) ∗ atPos ER (sendCell s c) 0 ∅ 0)
/-- A slot that has landed, its receive semaphore back at zero. -/
def received (s : Fin 8) (c : Dev nD) : sProp 𝕄 := iprop(slotPts s c (landed m c) ∗ semVal (recvCell s c) 0)

/-- A first-step transfer gives back the half of its band of the input. -/
theorem sendPay_A (q : Fin 4) (c : Dev nD) : sendPay (F := F) m (slotA q) c = xPts m fullShare.left q c := by
  unfold sendPay; rw [if_pos (show (slotA q).val < 4 from q.isLt), band_slotA]
/-- A second-step transfer gives back its band of the output, holding the first sums. -/
theorem sendPay_B (q : Fin 4) (c : Dev nD) : sendPay (F := F) m (slotB q) c = oPts q c (Y m c) := by
  unfold sendPay; rw [if_neg (show ¬ (slotB q).val < 4 from by show ¬ q.val + 4 < 4; omega), band_slotB]

/-! ## Starting a transfer -/

/-- A transfer of the band `q` of `b`, held with contents `fs`: the source goes, what is owed loses the transfer's credit. -/
theorem wp_send (K : Names) (b : Memref sig .tc .vmem S512x512 .f32) (q : Fin 4) (s : Fin 8) (p : PosShare TreeShare) (c n : Dev nD) (hn : n = peer s c)
    (l : List (Fin 8)) (fs : Buf (Elt F) ((row b q).view.loc (c : Thread nD τ)))
    (hpay : ((row b q).view.loc (c : Thread nD τ) ↦[(row b q).view.set]{p} fs : sProp 𝕄) ⊢ sendPay m s c)
    (hland : ∀ fd : Comm F, ∀ i ∈ (slot s).view.set,
      (slot s).view.write (Elt F) fd ((row b q).view.read (Elt F) fs) Finset.univ i = landed m (peer s c) i)
    {k : Pg F} {Q : PUnit → sProp 𝕄} :
    iprop(records m K ∗ ((row b q).view.loc (c : Thread nD τ) ↦[(row b q).view.set]{p} fs) ∗ canSend s c ∗ owesE c (owedFor (s :: l) c))
      ⊢ iprop(((flying s c ∗ owesE c (owedFor l c)) -∗ wp frame (wpE (defs₀ (F := F)) 𝒱₀ (c : Thread nD τ) none) Set.univ k Q)
          -∗ wp frame (wpE (defs₀ (F := F)) 𝒱₀ (c : Thread nD τ) none) Set.univ (sendStep b q s n k) Q) := by
  subst hn
  unfold canSend owesE flying sendStep
  iintro ⟨#HR, Hsrc, ⟨⟨%fd, Hdst⟩, HtS, HtR, Hat⟩, ⟨%W, HO⟩⟩ Hk
  unfold slotPts
  iapply (Rounds.wp_send_pointsTo 𝒱₀ ER (sched m) (c : Thread nD τ) none (κ₁ := K (c, sendIx s)) (κ₂ := K (peer s c, recvIx s))
    (r₁ := 0) (r₂ := 0) (d₁ := false) (d₂ := false) (fd := fd)
    (by rw [duties_send]; exact Finset.mem_singleton_self _) (by rw [duties_recv]; exact Finset.mem_singleton_self _)
    () () N (show (slot s).view.amount (.dma (recvS s)) = N from credit_slot s) (amount_send m c s false) (amount_recv m (peer s c) s false) (owedFor l c) rfl (W := W)
    (by rw [payload_send]; exact hpay)
    (by rw [payload_recv]; unfold recvPay slotPts; exact Entails.of_eq (pointsTo_congr (hland fd)))) $$ [Hsrc Hdst HO HtS HtR]
  · isplitr; · iapply (inv_send m K s c); iexact HR
    isplitr; · iapply (inv_recv m K s (peer s c)); iexact HR
    isplitl [Hsrc]; · iexact Hsrc
    isplitl [Hdst]; · iexact Hdst
    isplitl [HO]; · iexact HO
    isplitl [HtS]; · iexact HtS
    isplitr; · iapply (reached_send m K s c); iexact HR
    isplitl [HtR]; · iexact HtR
    iapply (reached_recv m K s (peer s c)); iexact HR
  iintro ⟨Hc, HO⟩
  iapply Hk
  isplitl [Hc Hat]
  · isplitl [Hc]; · iexact Hc
    iexact Hat
  iexists W; iexact HO

/-- A transfer of the first step reads half of the input's band. -/
theorem wp_sendA (K : Names) (q : Fin 4) (c n : Dev nD) (hn : n = peer (slotA q) c) (l : List (Fin 8)) {k : Pg F} {Q : PUnit → sProp 𝕄} :
    iprop(records m K ∗ xPts m fullShare.left q c ∗ canSend (slotA q) c ∗ owesE c (owedFor (slotA q :: l) c))
      ⊢ iprop(((flying (slotA q) c ∗ owesE c (owedFor l c)) -∗ wp frame (wpE (defs₀ (F := F)) 𝒱₀ (c : Thread nD τ) none) Set.univ k Q)
          -∗ wp frame (wpE (defs₀ (F := F)) 𝒱₀ (c : Thread nD τ) none) Set.univ (sendStep xM q (slotA q) n k) Q) := by
  have h := wp_send m K xM q (slotA q) fullShare.left c n hn l (X m c) (by rw [sendPay_A]; exact BI.Entails.refl _)
    (fun fd => by have := landing_x m (slotA q) q.isLt c fd; rwa [band_slotA] at this) (k := k) (Q := Q)
  exact h

/-- A transfer of the second step reads the output's band, which holds the first step's sums. -/
theorem wp_sendB (K : Names) (q : Fin 4) (c n : Dev nD) (hn : n = peer (slotB q) c) (l : List (Fin 8)) {k : Pg F} {Q : PUnit → sProp 𝕄} :
    iprop(records m K ∗ oPts q c (Y m c) ∗ canSend (slotB q) c ∗ owesE c (owedFor (slotB q :: l) c))
      ⊢ iprop(((flying (slotB q) c ∗ owesE c (owedFor l c)) -∗ wp frame (wpE (defs₀ (F := F)) 𝒱₀ (c : Thread nD τ) none) Set.univ k Q)
          -∗ wp frame (wpE (defs₀ (F := F)) 𝒱₀ (c : Thread nD τ) none) Set.univ (sendStep oM q (slotB q) n k) Q) := by
  have h := wp_send m K oM q (slotB q) fullShare c n hn l (Y m c) (by rw [sendPay_B]; exact BI.Entails.refl _)
    (fun fd => by have := landing_o m (slotB q) (show ¬ q.val + 4 < 4 by omega) c fd; rwa [band_slotB] at this) (k := k) (Q := Q)
  exact h

/-! ## Waiting -/

/-- Waiting on a receive cell: the slot has landed, and the cell closes at zero. -/
theorem wp_waitRecv (K : Names) (s : Fin 8) (c : Dev nD) (l : List (Fin 8)) (hl : ∀ s' ∈ l, lvS (.dma (recvS s)) < lvS (.dma (recvS s')))
    {e₁ : EltTy} {s₁ : Shape} (src : Memref sig .tc .vmem s₁ e₁) (hsrc : src.view.WordExact) (hdst : (slot s).view.WordExact)
    {k : PUnit → Pg F} {Q : PUnit → sProp 𝕄} :
    iprop(records m K ∗ canRecv s c ∗ owesE c (owedFor l c))
      ⊢ iprop(((received m s c ∗ owesE c (owedFor l c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s) src (slot s) hsrc hdst) k) Q) := by
  unfold canRecv owesE received
  iintro ⟨#HR, ⟨Hc, Hat⟩, ⟨%W, HO⟩⟩ Hk
  ihave #HI := (inv_recv m K s c) $$ HR
  iapply (Rounds.wp_wait_rest_token 𝒱₀ ER (sched m) (c : Thread nD τ) none (κ := K (c, recvIx s))
      (wpE_waitDma2_eq 𝒱₀ (c : Thread nD τ) none Set.univ) (Set.mem_univ _) () (O := owedFor l c) (W := W) (R := 0) (m := 0) (T := ∅)
      (by rw [Nat.zero_add, expect_recv]; rfl)) $$ [Hc HO Hat]
  · isplitr; · iexact HI
    isplitl [Hc]; · iexact Hc
    isplitl [HO]; · iexact HO
    isplitr; · iapply (mayWait c (.dma (recvS s)) l hl); iapply (levels m K); iexact HR
    iexact Hat
  iintro ⟨HO, Hat, -, Hpay⟩
  ihave Hp := (Entails.of_eq (rest_recv m c s)) $$ Hpay
  imod (Rounds.cell_close ER (sched m) (Set.mem_univ (K (c, recvIx s))) (fun h => h) (R := 0 + 1) (duties_later m (recvCell s c))) $$ [Hat] with Hz
  · isplitr; · iexact HI
    iexact Hat
  iapply Hk
  isplitr [HO]
  · isplitl [Hp]; · unfold recvPay; iexact Hp
    iexact Hz
  iexists _; iexact HO

/-- Waiting on a send cell: what the transfer read is back, and the cell closes at zero. -/
theorem wp_done (K : Names) (b : Memref sig .tc .vmem S512x512 .f32) (hb : ∀ q, (row b q).view.dmaCredit = N) (q : Fin 4) (s : Fin 8) (c : Dev nD)
    (l : List (Fin 8)) {k : Pg F} {Q : PUnit → sProp 𝕄} :
    iprop(records m K ∗ flying s c ∗ owesE c (owedFor l c))
      ⊢ iprop(((sendPay m s c ∗ semVal (sendCell s c) 0 ∗ owesE c (owedFor l c)) -∗ wp frame (wpE (defs₀ (F := F)) 𝒱₀ (c : Thread nD τ) none) Set.univ k Q)
          -∗ wp frame (wpE (defs₀ (F := F)) 𝒱₀ (c : Thread nD τ) none) Set.univ (doneStep b q s k) Q) := by
  unfold flying owesE doneStep
  iintro ⟨#HR, ⟨Hc, Hat⟩, ⟨%W, HO⟩⟩ Hk
  ihave #HI := (inv_send m K s c) $$ HR
  rw [← hb q]
  iapply (Rounds.wp_wait_rest_token 𝒱₀ ER (sched m) (c : Thread nD τ) none (κ := K (c, sendIx s))
      (wpE_waitDma2_eq 𝒱₀ (c : Thread nD τ) none Set.univ) (Set.mem_univ _) () (O := owedFor l c) (W := W) (R := 0) (m := 0) (T := ∅)
      (by rw [Nat.zero_add, expect_send, ← hb q])) $$ [Hc HO Hat]
  · isplitr; · iexact HI
    isplitl [Hc]; · iexact Hc
    isplitl [HO]; · iexact HO
    isplitr
    · iapply (mayWait c (.dma (sendS s)) l fun s' _ => Nat.lt_of_lt_of_le
        (show (if isRecv (sendS s) then _ else 0) < 2 by rw [if_neg (not_isRecv_sendS s)]; decide) (lv_recv s'))
      iapply (levels m K); iexact HR
    iexact Hat
  iintro ⟨HO, Hat, -, Hpay⟩
  ihave Hp := (Entails.of_eq (rest_send m c s)) $$ Hpay
  imod (Rounds.cell_close ER (sched m) (Set.mem_univ (K (c, sendIx s))) (fun h => h) (R := 0 + 1) (duties_later m (sendCell s c))) $$ [Hat] with Hz
  · isplitr; · iexact HI
    iexact Hat
  iapply Hk
  isplitl [Hp]; · iexact Hp
  isplitl [Hz]; · iexact Hz
  iexists _; iexact HO

/-! ## Waiting and adding -/

/-- A load of band `q` touches only band `q`. -/
theorem load_row_sub (b : Memref sig .tc .vmem S512x512 .f32) (q : Fin 4) : b.view.setOn (rowR q).toLoadRect.set ⊆ (row b q).view.set :=
  (View.set_slice b.view (rowR q)).ge
/-- A load of slot `s` touches only slot `s`. -/
theorem load_slot_sub (s : Fin 8) : cM.view.setOn (slotR s).toLoadRect.set ⊆ (slot s).view.set := by
  rw [slot_set]
  show (View.whole cc0_scratch0).setOn (slotR s).set ⊆ (slotR s).set
  exact ((View.set_slice (View.whole cc0_scratch0) (slotR s)).symm.trans (View.set_slice_whole cc0_scratch0 (slotR s))).le
/-- A store to band `q` of the output touches only band `q`. -/
theorem store_row_sub (q : Fin 4) : ((oM.access (rowR q) : View sig .tc _ _ _).setOn Finset.univ) ⊆ (row oM q).view.set := Finset.Subset.refl _

/-- The first step's addition: the output's band, whatever it held, holds the band of `Y`. -/
theorem wp_landA (K : Names) (q : Fin 4) (c : Dev nD) (l : List (Fin 8)) (hl : ∀ s' ∈ l, lvS (.dma (recvS (slotA q))) < lvS (.dma (recvS s')))
    {k : Pg F} {Q : PUnit → sProp 𝕄} :
    iprop(records m K ∗ canRecv (slotA q) c ∗ xPts m fullShare.right q c ∗ (∃ f, oPts q c f) ∗ owesE c (owedFor l c))
      ⊢ iprop(((received m (slotA q) c ∗ xPts m fullShare.right q c ∗ oPts q c (Y m c) ∗ owesE c (owedFor l c))
            -∗ wp frame (wpE (defs₀ (F := F)) 𝒱₀ (c : Thread nD τ) none) Set.univ k Q)
          -∗ wp frame (wpE (defs₀ (F := F)) 𝒱₀ (c : Thread nD τ) none) Set.univ (landStep xM q (slotA q) k) Q) := by
  unfold landStep
  iintro ⟨#HR, Hr, Hx, ⟨%f, Ho⟩, HO⟩ Hk
  iapply (wp_waitRecv m K (slotA q) c l hl (row xM q) _ _) $$ [Hr HO]
  · isplitr; · iexact HR
    isplitl [Hr]; · iexact Hr
    iexact HO
  unfold received xPts slotPts oPts
  iintro ⟨⟨Hs, Hz⟩, HO⟩
  iapply (wp_load 𝒱₀ (c : Thread nD τ) none Set.univ (m := xM) (load_row_sub xM q)) $$ Hx; iintro Hx
  iapply (wp_load 𝒱₀ (c : Thread nD τ) none Set.univ (m := cM) (load_slot_sub (slotA q))) $$ Hs; iintro Hs
  iapply (wp_load 𝒱₀ (c : Thread nD τ) none Set.univ (m := oM) (load_row_sub oM q)) $$ Ho; iintro Ho
  iapply (wp_store 𝒱₀ (c : Thread nD τ) none Set.univ (m := oM) (r := rowR q) (Mk := Finset.univ) (store_row_sub q)) $$ Ho; iintro Ho
  ihave Ho' := (Entails.of_eq (pointsTo_congr (ℓ := (row oM q).view.loc (c : Thread nD τ)) (I := (row oM q).view.set) (q := fullShare) (by rw [row_o_set]; exact add_first m q c f))) $$ Ho
  iapply Hk
  isplitl [Hs Hz]
  · isplitl [Hs]; · iexact Hs
    iexact Hz
  isplitl [Hx]; · iexact Hx
  isplitl [Ho']; · iexact Ho'
  iexact HO

/-- The second step's addition: the output's band goes from `Y` to `Z`. -/
theorem wp_landB (K : Names) (q : Fin 4) (c : Dev nD) {k : Pg F} {Q : PUnit → sProp 𝕄} :
    iprop(records m K ∗ canRecv (slotB q) c ∗ oPts q c (Y m c) ∗ owesE c (owedFor [] c))
      ⊢ iprop(((received m (slotB q) c ∗ oPts q c (Z m c) ∗ owesE c (owedFor [] c))
            -∗ wp frame (wpE (defs₀ (F := F)) 𝒱₀ (c : Thread nD τ) none) Set.univ k Q)
          -∗ wp frame (wpE (defs₀ (F := F)) 𝒱₀ (c : Thread nD τ) none) Set.univ (landStep oM q (slotB q) k) Q) := by
  unfold landStep
  iintro ⟨#HR, Hr, Ho, HO⟩ Hk
  iapply (wp_waitRecv m K (slotB q) c [] (fun _ h => absurd h List.not_mem_nil) (row oM q) _ _) $$ [Hr HO]
  · isplitr; · iexact HR
    isplitl [Hr]; · iexact Hr
    iexact HO
  unfold received slotPts oPts
  iintro ⟨⟨Hs, Hz⟩, HO⟩
  iapply (wp_load 𝒱₀ (c : Thread nD τ) none Set.univ (m := oM) (load_row_sub oM q)) $$ Ho; iintro Ho
  iapply (wp_load 𝒱₀ (c : Thread nD τ) none Set.univ (m := cM) (load_slot_sub (slotB q))) $$ Hs; iintro Hs
  iapply (wp_load 𝒱₀ (c : Thread nD τ) none Set.univ (m := oM) (load_row_sub oM q)) $$ Ho; iintro Ho
  iapply (wp_store 𝒱₀ (c : Thread nD τ) none Set.univ (m := oM) (r := rowR q) (Mk := Finset.univ) (store_row_sub q)) $$ Ho; iintro Ho
  ihave Ho' := (Entails.of_eq (pointsTo_congr (ℓ := (row oM q).view.loc (c : Thread nD τ)) (I := (row oM q).view.set) (q := fullShare) (by rw [row_o_set]; exact add_second m q c (Y m c)))) $$ Ho
  iapply Hk
  isplitl [Hs Hz]
  · isplitl [Hs]; · iexact Hs
    iexact Hz
  isplitl [Ho']; · iexact Ho'
  iexact HO

/-! ## The two phases of a band -/

/-- A band's first addition and the start of its second transfer. -/
theorem wp_phase1 (K : Names) (q : Fin 4) (c n : Dev nD) (hn : n = peer (slotB q) c) (l : List (Fin 8))
    (hl : ∀ s' ∈ slotB q :: l, lvS (.dma (recvS (slotA q))) < lvS (.dma (recvS s'))) {k : Pg F} {Q : PUnit → sProp 𝕄} :
    iprop(records m K ∗ canRecv (slotA q) c ∗ xPts m fullShare.right q c ∗ (∃ f, oPts q c f) ∗ canSend (slotB q) c ∗ owesE c (owedFor (slotB q :: l) c))
      ⊢ iprop(((received m (slotA q) c ∗ xPts m fullShare.right q c ∗ flying (slotB q) c ∗ owesE c (owedFor l c))
            -∗ wp frame (wpE (defs₀ (F := F)) 𝒱₀ (c : Thread nD τ) none) Set.univ k Q)
          -∗ wp frame (wpE (defs₀ (F := F)) 𝒱₀ (c : Thread nD τ) none) Set.univ (landStep xM q (slotA q) (sendStep oM q (slotB q) n k)) Q) := by
  iintro ⟨#HR, Hr, Hx, Ho, Hs, HO⟩ Hk
  iapply (wp_landA m K q c (slotB q :: l) hl) $$ [Hr Hx Ho HO]
  · isplitr; · iexact HR
    isplitl [Hr]; · iexact Hr
    isplitl [Hx]; · iexact Hx
    isplitl [Ho]; · iexact Ho
    iexact HO
  iintro ⟨Hr, Hx, Ho, HO⟩
  iapply (wp_sendB m K q c n hn l) $$ [Ho Hs HO]
  · isplitr; · iexact HR
    isplitl [Ho]; · iexact Ho
    isplitl [Hs]; · iexact Hs
    iexact HO
  iintro ⟨Hf, HO⟩
  iapply Hk
  isplitl [Hr]; · iexact Hr
  isplitl [Hx]; · iexact Hx
  isplitl [Hf]; · iexact Hf
  iexact HO

/-- A band's second transfer has left, its second slot has landed, and the second addition. -/
theorem wp_phase2 (K : Names) (q : Fin 4) (c : Dev nD) {k : Pg F} {Q : PUnit → sProp 𝕄} :
    iprop(records m K ∗ flying (slotB q) c ∗ canRecv (slotB q) c ∗ owesE c (owedFor [] c))
      ⊢ iprop(((received m (slotB q) c ∗ semVal (sendCell (slotB q) c) 0 ∗ oPts q c (Z m c) ∗ owesE c (owedFor [] c))
            -∗ wp frame (wpE (defs₀ (F := F)) 𝒱₀ (c : Thread nD τ) none) Set.univ k Q)
          -∗ wp frame (wpE (defs₀ (F := F)) 𝒱₀ (c : Thread nD τ) none) Set.univ (doneStep oM q (slotB q) (landStep oM q (slotB q) k)) Q) := by
  iintro ⟨#HR, Hf, Hr, HO⟩ Hk
  iapply (wp_done m K oM credit_row_o q (slotB q) c []) $$ [Hf HO]
  · isplitr; · iexact HR
    isplitl [Hf]; · iexact Hf
    iexact HO
  rw [sendPay_B]
  iintro ⟨Ho, Hz, HO⟩
  iapply (wp_landB m K q c) $$ [Hr Ho HO]
  · isplitr; · iexact HR
    isplitl [Hr]; · iexact Hr
    isplitl [Ho]; · iexact Ho
    iexact HO
  iintro ⟨Hr, Ho, HO⟩
  iapply Hk
  isplitl [Hr]; · iexact Hr
  isplitl [Hz]; · iexact Hz
  isplitl [Ho]; · iexact Ho
  iexact HO

end Cert.AllReduce

end
-- ==== Proof.Body.lean ====
/-
# The two-step all-reduce on a 2×2 mesh: the body

The printed body is the sequence of steps `tidy`, by computation (`body_eq`). This module states the launch's data for
the body, cuts the staging blocks and the communication buffer into bands and slots and puts them together again, and
runs the body through the steps.
-/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body as steps -/

/-- The first signal goes to the neighbour along the first axis. -/
theorem dev1_eq (c : Dev nD) : (⟨k0_dev1 c, k0_dev1_lt c⟩ : Dev nD) = nb false c := Fin.ext ((k0_dev1_eq c).trans (by revert c; decide))
/-- The second signal goes to the neighbour along the second axis. -/
theorem dev2_eq (c : Dev nD) : (⟨k0_dev2 c, k0_dev2_lt c⟩ : Dev nD) = nb true c := Fin.ext ((k0_dev2_eq c).trans (by revert c; decide))
/-- The first transfer goes to the peer of band 0's first-step slot. -/
theorem dev3_eq (c : Dev nD) : (⟨k0_dev3 c, k0_dev3_lt c⟩ : Dev nD) = peer (slotA 0) c := Fin.ext ((k0_dev3_eq c).trans (by revert c; decide))
/-- The second transfer goes to the peer of band 2's first-step slot. -/
theorem dev4_eq (c : Dev nD) : (⟨k0_dev4 c, k0_dev4_lt c⟩ : Dev nD) = peer (slotA 2) c := Fin.ext ((k0_dev4_eq c).trans (by revert c; decide))
/-- The third transfer goes to the peer of band 1's first-step slot. -/
theorem dev5_eq (c : Dev nD) : (⟨k0_dev5 c, k0_dev5_lt c⟩ : Dev nD) = peer (slotA 1) c := Fin.ext ((k0_dev5_eq c).trans (by revert c; decide))
/-- The fourth transfer goes to the peer of band 3's first-step slot. -/
theorem dev6_eq (c : Dev nD) : (⟨k0_dev6 c, k0_dev6_lt c⟩ : Dev nD) = peer (slotA 3) c := Fin.ext ((k0_dev6_eq c).trans (by revert c; decide))
/-- The fifth transfer goes to the peer of band 0's second-step slot. -/
theorem dev7_eq (c : Dev nD) : (⟨k0_dev7 c, k0_dev7_lt c⟩ : Dev nD) = peer (slotB 0) c := Fin.ext ((k0_dev7_eq c).trans (by revert c; decide))
/-- The sixth transfer goes to the peer of band 2's second-step slot. -/
theorem dev8_eq (c : Dev nD) : (⟨k0_dev8 c, k0_dev8_lt c⟩ : Dev nD) = peer (slotB 2) c := Fin.ext ((k0_dev8_eq c).trans (by revert c; decide))
/-- The seventh transfer goes to the peer of band 1's second-step slot. -/
theorem dev9_eq (c : Dev nD) : (⟨k0_dev9 c, k0_dev9_lt c⟩ : Dev nD) = peer (slotB 1) c := Fin.ext ((k0_dev9_eq c).trans (by revert c; decide))
/-- The eighth transfer goes to the peer of band 3's second-step slot. -/
theorem dev10_eq (c : Dev nD) : (⟨k0_dev10 c, k0_dev10_lt c⟩ : Dev nD) = peer (slotB 3) c := Fin.ext ((k0_dev10_eq c).trans (by revert c; decide))

/-- The last part: the second additions, then the first step's transfers have left. -/
def tidyC : Pg F :=
  doneStep oM 0 (slotB 0) <| landStep oM 0 (slotB 0) <| doneStep oM 2 (slotB 2) <| landStep oM 2 (slotB 2) <|
  doneStep oM 1 (slotB 1) <| landStep oM 1 (slotB 1) <| doneStep oM 3 (slotB 3) <| landStep oM 3 (slotB 3) <|
  doneStep xM 0 (slotA 0) <| doneStep xM 2 (slotA 2) <| doneStep xM 1 (slotA 1) <| doneStep xM 3 (slotA 3) <| .ret ⟨⟩
/-- The middle part: the first additions, each followed by the start of the band's second transfer. -/
def tidyB (c : Dev nD) : Pg F :=
  landStep xM 0 (slotA 0) <| sendStep oM 0 (slotB 0) ⟨k0_dev7 c, k0_dev7_lt c⟩ <|
  landStep xM 2 (slotA 2) <| sendStep oM 2 (slotB 2) ⟨k0_dev8 c, k0_dev8_lt c⟩ <|
  landStep xM 1 (slotA 1) <| sendStep oM 1 (slotB 1) ⟨k0_dev9 c, k0_dev9_lt c⟩ <|
  landStep xM 3 (slotA 3) <| sendStep oM 3 (slotB 3) ⟨k0_dev10 c, k0_dev10_lt c⟩ tidyC
/-- The whole: the handshake with the neighbours, the first transfers, and the rest. -/
def tidy (c : Dev nD) : Pg F :=
  .op (.semSignal ((⟨k0_dev1 c, k0_dev1_lt c⟩ : Dev nD) : Thread nD τ) barS (1#32).toInt) fun _ =>
  .op (.semSignal ((⟨k0_dev2 c, k0_dev2_lt c⟩ : Dev nD) : Thread nD τ) barS (1#32).toInt) fun _ =>
  .op (.semWait barS (2#32).toInt) fun _ =>
  sendStep xM 0 (slotA 0) ⟨k0_dev3 c, k0_dev3_lt c⟩ <| sendStep xM 2 (slotA 2) ⟨k0_dev4 c, k0_dev4_lt c⟩ <|
  sendStep xM 1 (slotA 1) ⟨k0_dev5 c, k0_dev5_lt c⟩ <| sendStep xM 3 (slotA 3) ⟨k0_dev6 c, k0_dev6_lt c⟩ <| tidyB c

set_option maxRecDepth 65536 in
/-- The printed body reads its device and runs the steps. -/
theorem body_eq :
    cc0_body (F := F) (Memref.whole cc0_stg0_0) (Memref.isWhole_whole _) (Memref.whole cc0_stg1_0) (Memref.isWhole_whole _)
      (Memref.whole cc0_scratch0) (Memref.isWhole_whole _) cc0_scratch1 cc0_scratch2 = .op .deviceId tidy := by
  rfl

/-! ## Bands and slots of whole buffers -/

/-- A whole buffer is its parts, if they are disjoint and cover it. -/
theorem pointsTo_parts {ι : Type} [Fintype ι] [DecidableEq ι] {ℓ : Loc nD τ sig} (p : PosShare TreeShare) (f : Buf (Elt F) ℓ) {S : ι → Finset (Idx ℓ)}
    (hd : ∀ i ∈ (Finset.univ : Finset ι), ∀ j ∈ (Finset.univ : Finset ι), i ≠ j → Disjoint (S i) (S j)) (hc : Finset.univ.biUnion S = Finset.univ) :
    (ℓ ↦{p} f : sProp 𝕄) = bigSep Finset.univ fun i => (ℓ ↦[S i]{p} f : sProp 𝕄) := by
  rw [← pointsTo_biUnion Finset.univ S hd, hc]

/-- The input's buffer is its four bands. -/
theorem x_bands (p : PosShare TreeShare) (c : Dev nD) :
    (((c : Thread nD τ).loc cc0_stg0_0) ↦{p} X m c : sProp 𝕄) = bigSep Finset.univ fun q : Fin 4 => xPts m p q c := by
  unfold xPts
  rw [bigSep_congr (s := Finset.univ) (fun (q : Fin 4) _ => show _ = (((c : Thread nD τ).loc cc0_stg0_0) ↦[rowSet q]{p} X m c : sProp 𝕄) by rw [row_x_set])]
  exact pointsTo_parts (ℓ := (c : Thread nD τ).loc cc0_stg0_0) _ _ rowSet_disjoint rowSet_cover
/-- The output's buffer is its four bands. -/
theorem o_bands (c : Dev nD) (f : Block F) :
    (((c : Thread nD τ).loc cc0_stg1_0) ↦{fullShare} f : sProp 𝕄) = bigSep Finset.univ fun q : Fin 4 => oPts q c f := by
  unfold oPts
  rw [bigSep_congr (s := Finset.univ) (fun (q : Fin 4) _ => show _ = (((c : Thread nD τ).loc cc0_stg1_0) ↦[rowSet q]{fullShare} f : sProp 𝕄) by rw [row_o_set])]
  exact pointsTo_parts (ℓ := (c : Thread nD τ).loc cc0_stg1_0) _ _ rowSet_disjoint rowSet_cover
/-- The communication buffer is its eight slots. -/
theorem c_slots (c : Dev nD) (f : Comm F) :
    (((c : Thread nD τ).loc cc0_scratch0) ↦{fullShare} f : sProp 𝕄) = bigSep Finset.univ fun s : Fin 8 => slotPts s c f := by
  unfold slotPts
  rw [bigSep_congr (s := Finset.univ) (fun (s : Fin 8) _ => show _ = (((c : Thread nD τ).loc cc0_scratch0) ↦[slotSet s]{fullShare} f : sProp 𝕄) by rw [slot_set])]
  exact pointsTo_parts (ℓ := (c : Thread nD τ).loc cc0_scratch0) _ _ slotSet_disjoint slotSet_cover

/-- Forgetting what the bands of the output hold. -/
theorem o_forget (c : Dev nD) (f : Block F) :
    (bigSep Finset.univ fun q : Fin 4 => oPts q c f : sProp 𝕄) ⊢ bigSep Finset.univ fun q : Fin 4 => iprop(∃ g, oPts q c g) := by
  have h (q : Fin 4) : (oPts q c f : sProp 𝕄) ⊢ iprop(∃ g, oPts q c g) := by iintro H; iexists f; iexact H
  exact bigSep_mono fun q _ => h q
/-- Forgetting what the slots hold. -/
theorem c_forget (c : Dev nD) (f : Comm F) :
    (bigSep Finset.univ fun s : Fin 8 => slotPts s c f : sProp 𝕄) ⊢ bigSep Finset.univ fun s : Fin 8 => iprop(∃ g, slotPts s c g) := by
  have h (s : Fin 8) : (slotPts s c f : sProp 𝕄) ⊢ iprop(∃ g, slotPts s c g) := by iintro H; iexists f; iexact H
  exact bigSep_mono fun s _ => h s

/-- The four bands, one by one. -/
theorem bigSep_bands (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- The eight slots, one by one. -/
theorem bigSep_slots (Φ : Fin 8 → sProp 𝕄) : bigSep Finset.univ Φ
    = iprop(Φ (slotA 0) ∗ Φ (slotA 1) ∗ Φ (slotA 2) ∗ Φ (slotA 3) ∗ Φ (slotB 0) ∗ Φ (slotB 1) ∗ Φ (slotB 2) ∗ Φ (slotB 3)) :=
  bigSep_univ_eq_bigSepL [slotA 0, slotA 1, slotA 2, slotA 3, slotB 0, slotB 1, slotB 2, slotB 3] (by decide) (by decide) Φ

/-! ## What the body starts from and ends with -/

/-- The tokens of the duties device `c` pays: its signals, its sends, and their arrivals at its peers. -/
def payToks (c : Dev nD) : sProp 𝕄 :=
  iprop(dutyTok ER (barCell (nb false c)) 0 false ∗ dutyTok ER (barCell (nb true c)) 0 true
    ∗ (bigSep Finset.univ fun s : Fin 8 => dutyTok ER (sendCell s c) 0 false) ∗ bigSep Finset.univ fun s : Fin 8 => dutyTok ER (recvCell s (peer s c)) 0 false)
/-- Device `c`'s positions at its own cells, all at the start of round 0. -/
def positions (c : Dev nD) : sProp 𝕄 :=
  iprop(atPos ER (barCell c) 0 ∅ 0 ∗ (bigSep Finset.univ fun s : Fin 8 => atPos ER (sendCell s c) 0 ∅ 0)
    ∗ bigSep Finset.univ fun s : Fin 8 => atPos ER (recvCell s c) 0 ∅ 0)
/-- Device `c`'s ghost state, with the cells' invariants at the names `K`. -/
def ghost (K : Names) (c : Dev nD) : sProp 𝕄 := iprop(marks m K ∗ positions c ∗ payToks c)
/-- The credit a device may wait with: two units at its barrier, a band's credit at each receive semaphore. -/
def creds (c : Dev nD) : sProp 𝕄 :=
  iprop(cred (tallyAt (barCell c) () 2) ∗ bigSep Finset.univ fun s : Fin 8 => cred (tallyAt (recvCell s c) () N))
/-- What a device starts from besides its buffers: ghost state, credit, levels. -/
def start (c : Dev nD) : sProp 𝕄 := iprop((∃ K, ghost m K c) ∗ creds c ∗ levAts L lv)

/-- At the start: all that, and the communication buffer with anything in it. -/
def Φ₀ (c : Dev nD) : sProp 𝕄 := iprop(start m c ∗ ∃ f, ((c : Thread nD τ).loc cc0_scratch0) ↦{fullShare} f)
/-- At the end the communication buffer is whole again and every semaphore is at zero. -/
def Φ₁ (c : Dev nD) : sProp 𝕄 :=
  iprop((((c : Thread nD τ).loc cc0_scratch0) ↦{fullShare} landed m c) ∗ semVal (barCell c) 0
    ∗ (bigSep Finset.univ fun s : Fin 8 => semVal (sendCell s c) 0) ∗ bigSep Finset.univ fun s : Fin 8 => semVal (recvCell s c) 0)

/-- The kernel runs on one grid point. -/
theorem cfg0_N : cfg0.N = 1 := by decide
/-- That grid point. -/
def t₀ : Fin cfg0.N := ⟨0, by rw [cfg0_N]; decide⟩
/-- There is no other. -/
theorem fin_N (t : Fin cfg0.N) : t = t₀ := by
  obtain ⟨t, ht⟩ := t; have := cfg0_N; exact Fin.ext (by simp only [t₀]; omega)

/-- The launch's data: the input block stays, the output block ends as `Z`. -/
def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => Z m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The two windows, one by one. -/
theorem bigSep_W (Φ : Fin cfg0.W → sProp 𝕄) : bigSep Finset.univ Φ = iprop(Φ (0 : Fin 2) ∗ Φ (1 : Fin 2)) := bigSep_W0 Φ
/-- The input block is fetched. -/
theorem fetch_0 (t : Fin cfg0.N) : (cfg0.win (0 : Fin 2)).fetch t = true := by rw [fin_N t]; rfl

/-- Owning a whole buffer with given contents is a points-to at those contents. -/
theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-- A staging buffer of device `c` with the contents `f`. -/
abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

/-- What the body is given: its start, what it owes, and the two staging buffers. -/
def bodyPre (c : Dev nD) : sProp 𝕄 :=
  iprop(Φ₀ m c ∗ (dats m 0 c).owesAt () t₀.castSucc
    ∗ (∃ d, stg c cc0_stg0_0 ((dats m 0 c).before (0 : Fin 2) t₀ d)) ∗ (∃ d, stg c cc0_stg1_0 ((dats m 0 c).before (1 : Fin 2) t₀ d)))
/-- What the body gives back: the input block as it was, the output block holding `Z`, nothing owed. -/
def bodyPost (c : Dev nD) : sProp 𝕄 :=
  iprop(Φ₁ m c ∗ (dats m 0 c).owesAt () t₀.succ ∗ stg c cc0_stg0_0 (X m c) ∗ stg c cc0_stg1_0 (Z m c))

/-! ## The handshake -/

/-- Signalling both neighbours, which hands them the slots they write, and waiting for both, which brings all the peers' slots. -/
theorem wp_handshake (K : Names) (c : Dev nD) {k : Pg F} {Q : PUnit → sProp 𝕄} :
    iprop(records m K ∗ (∃ f, ((c : Thread nD τ).loc cc0_scratch0) ↦{fullShare} f) ∗ owesE c (O₀ c)
        ∗ dutyTok ER (barCell (nb false c)) 0 false ∗ dutyTok ER (barCell (nb true c)) 0 true
        ∗ atPos ER (barCell c) 0 ∅ 0 ∗ cred (tallyAt (barCell c) () 2))
      ⊢ iprop((((bigSep Finset.univ fun s : Fin 8 => iprop(∃ f, slotPts s (peer s c) f)) ∗ semVal (barCell c) 0 ∗ owesE c (owedFor order c))
            -∗ wp frame (wpE (defs₀ (F := F)) 𝒱₀ (c : Thread nD τ) none) Set.univ k Q)
          -∗ wp frame (wpE (defs₀ (F := F)) 𝒱₀ (c : Thread nD τ) none) Set.univ
            (.op (.semSignal (nb false c : Thread nD τ) barS (1#32).toInt) fun _ => .op (.semSignal (nb true c : Thread nD τ) barS (1#32).toInt) fun _ =>
              .op (.semWait barS (2#32).toInt) fun _ => k) Q) := by
  iintro ⟨#HR, ⟨%f, Hscr⟩, Ho, Ht0, Ht1, Hat, Hc⟩ Hk
  ihave Hs := (Entails.of_eq (c_slots c f)) $$ Hscr
  ihave Hs' := (c_forget c f) $$ Hs
  ihave Hs := (Entails.of_eq (bigSep_sides (fun s : Fin 8 => (iprop(∃ f, slotPts s c f) : sProp 𝕄)))) $$ Hs'
  icases Hs with ⟨Hs0, Hs1⟩
  unfold owesE
  icases Ho with ⟨%W, HO⟩
  iapply (Rounds.wp_signal 𝒱₀ ER (sched m) (c : Thread nD τ) none (dst := (nb false c : Thread nD τ)) (κ := K (nb false c, 0))
      (d := false) (by rw [duties_bar]; exact Finset.mem_univ _) ((amount_bar m (nb false c) false).trans (by decide)) () (O₁ c) rfl)
    $$ [HO Ht0 Hs0]
  · isplitr; · iapply (inv_bar m K (nb false c)); iexact HR
    isplitl [HO]; · iexact HO
    isplitl [Ht0]; · iexact Ht0
    isplitl [Hs0]; · rw [payload_bar]; unfold barPay; rw [nb_nb]; iexact Hs0
    iapply (reached_bar m K (nb false c)); iexact HR
  iintro HO
  iapply (Rounds.wp_signal 𝒱₀ ER (sched m) (c : Thread nD τ) none (dst := (nb true c : Thread nD τ)) (κ := K (nb true c, 0))
      (d := true) (by rw [duties_bar]; exact Finset.mem_univ _) ((amount_bar m (nb true c) true).trans (by decide)) () (owedFor order c) rfl)
    $$ [HO Ht1 Hs1]
  · isplitr; · iapply (inv_bar m K (nb true c)); iexact HR
    isplitl [HO]; · iexact HO
    isplitl [Ht1]; · iexact Ht1
    isplitl [Hs1]; · rw [payload_bar]; unfold barPay; rw [nb_nb]; iexact Hs1
    iapply (reached_bar m K (nb true c)); iexact HR
  iintro HO
  ihave #HI := (inv_bar m K c) $$ HR
  iapply (Rounds.wp_wait_rest_token 𝒱₀ ER (sched m) (c : Thread nD τ) none (κ := K (c, 0))
      (wpE_semWait_eq 𝒱₀ (c : Thread nD τ) none Set.univ) (Set.mem_univ _) () (O := owedFor order c) (W := W) (R := 0) (m := 0) (T := ∅)
      (by rw [expect_bar]; decide)) $$ [Hc HO Hat]
  · isplitr; · iexact HI
    isplitl [Hc]; · iexact Hc
    isplitl [HO]; · iexact HO
    isplitr
    · iapply (mayWait c (.reg barS) order fun s' _ => Nat.lt_of_lt_of_le (show 1 < 2 by decide) (lv_recv s'))
      iapply (levels m K); iexact HR
    iexact Hat
  iintro ⟨HO, Hat, -, Hpay⟩
  ihave Hp := (Entails.of_eq (rest_bar m c)) $$ Hpay
  imod (Rounds.cell_close ER (sched m) (Set.mem_univ (K (c, 0))) (fun h => h) (R := 0 + 1) (duties_later m (barCell c))) $$ [Hat] with Hz
  · isplitr; · iexact HI
    iexact Hat
  iapply Hk
  isplitl [Hp]; · iexact Hp
  isplitl [Hz]; · iexact Hz
  iexists _; iexact HO

/-! ## The rest of the body, from what the handshake leaves -/

/-- What the transfers and additions start from. -/
def runPre (c : Dev nD) : sProp 𝕄 :=
  iprop((bigSep Finset.univ fun q : Fin 4 => xPts m fullShare.left q c) ∗ (bigSep Finset.univ fun q : Fin 4 => xPts m fullShare.right q c)
    ∗ (bigSep Finset.univ fun q : Fin 4 => iprop(∃ f, oPts q c f))
    ∗ (bigSep Finset.univ fun s : Fin 8 => canSend s c) ∗ (bigSep Finset.univ fun s : Fin 8 => canRecv s c))
/-- What they end with. -/
def runPost (c : Dev nD) : sProp 𝕄 :=
  iprop((bigSep Finset.univ fun q : Fin 4 => xPts m fullShare.left q c) ∗ (bigSep Finset.univ fun q : Fin 4 => xPts m fullShare.right q c)
    ∗ (bigSep Finset.univ fun q : Fin 4 => oPts q c (Z m c))
    ∗ (bigSep Finset.univ fun s : Fin 8 => semVal (sendCell s c) 0) ∗ (bigSep Finset.univ fun s : Fin 8 => received m s c))

/-- The first transfers. -/
theorem wp_firstSends (K : Names) (c : Dev nD) {k : Pg F} {Q : PUnit → sProp 𝕄} :
    iprop(records m K ∗ (xPts m fullShare.left 0 c ∗ xPts m fullShare.left 1 c ∗ xPts m fullShare.left 2 c ∗ xPts m fullShare.left 3 c)
        ∗ (canSend (slotA 0) c ∗ canSend (slotA 1) c ∗ canSend (slotA 2) c ∗ canSend (slotA 3) c) ∗ owesE c (owedFor order c))
      ⊢ iprop((((flying (slotA 0) c ∗ flying (slotA 1) c ∗ flying (slotA 2) c ∗ flying (slotA 3) c) ∗ owesE c (owedFor [slotB 0, slotB 2, slotB 1, slotB 3] c))
            -∗ wp frame (wpE (defs₀ (F := F)) 𝒱₀ (c : Thread nD τ) none) Set.univ k Q)
          -∗ wp frame (wpE (defs₀ (F := F)) 𝒱₀ (c : Thread nD τ) none) Set.univ
            (sendStep xM 0 (slotA 0) ⟨k0_dev3 c, k0_dev3_lt c⟩ <| sendStep xM 2 (slotA 2) ⟨k0_dev4 c, k0_dev4_lt c⟩ <|
              sendStep xM 1 (slotA 1) ⟨k0_dev5 c, k0_dev5_lt c⟩ <| sendStep xM 3 (slotA 3) ⟨k0_dev6 c, k0_dev6_lt c⟩ k) Q) := by
  iintro ⟨#HR, ⟨Hx0, Hx1, Hx2, Hx3⟩, ⟨Hs0, Hs1, Hs2, Hs3⟩, HO⟩ Hk
  unfold order
  iapply (wp_sendA m K 0 c _ (dev3_eq c) _) $$ [Hx0 Hs0 HO]
  · isplitr; · iexact HR
    isplitl [Hx0]; · iexact Hx0
    isplitl [Hs0] <;> iassumption
  iintro ⟨Hf0, HO⟩
  iapply (wp_sendA m K 2 c _ (dev4_eq c) _) $$ [Hx2 Hs2 HO]
  · isplitr; · iexact HR
    isplitl [Hx2]; · iexact Hx2
    isplitl [Hs2] <;> iassumption
  iintro ⟨Hf2, HO⟩
  iapply (wp_sendA m K 1 c _ (dev5_eq c) _) $$ [Hx1 Hs1 HO]
  · isplitr; · iexact HR
    isplitl [Hx1]; · iexact Hx1
    isplitl [Hs1] <;> iassumption
  iintro ⟨Hf1, HO⟩
  iapply (wp_sendA m K 3 c _ (dev6_eq c) _) $$ [Hx3 Hs3 HO]
  · isplitr; · iexact HR
    isplitl [Hx3]; · iexact Hx3
    isplitl [Hs3] <;> iassumption
  iintro ⟨Hf3, HO⟩
  iapply Hk
  isplitr [HO]
  · isplitl [Hf0]; · iexact Hf0
    isplitl [Hf1]; · iexact Hf1
    isplitl [Hf2] <;> iassumption
  iexact HO

/-- A first-step receive cell is below the second-step ones. -/
theorem lv_A_lt_B (q : Fin 4) : ∀ s ∈ [slotB 0, slotB 2, slotB 1, slotB 3], lvS (.dma (recvS (slotA q))) < lvS (.dma (recvS s)) := by
  revert q; decide

/-- The first additions and second transfers. -/
theorem wp_firstAdds (K : Names) (c : Dev nD) {Q : PUnit → sProp 𝕄} :
    iprop(records m K ∗ (xPts m fullShare.right 0 c ∗ xPts m fullShare.right 1 c ∗ xPts m fullShare.right 2 c ∗ xPts m fullShare.right 3 c)
        ∗ ((∃ f, oPts 0 c f) ∗ (∃ f, oPts 1 c f) ∗ (∃ f, oPts 2 c f) ∗ ∃ f, oPts 3 c f)
        ∗ (canRecv (slotA 0) c ∗ canRecv (slotA 1) c ∗ canRecv (slotA 2) c ∗ canRecv (slotA 3) c)
        ∗ (canSend (slotB 0) c ∗ canSend (slotB 1) c ∗ canSend (slotB 2) c ∗ canSend (slotB 3) c) ∗ owesE c (owedFor [slotB 0, slotB 2, slotB 1, slotB 3] c))
      ⊢ iprop((((xPts m fullShare.right 0 c ∗ xPts m fullShare.right 1 c ∗ xPts m fullShare.right 2 c ∗ xPts m fullShare.right 3 c)
            ∗ (received m (slotA 0) c ∗ received m (slotA 1) c ∗ received m (slotA 2) c ∗ received m (slotA 3) c)
            ∗ (flying (slotB 0) c ∗ flying (slotB 1) c ∗ flying (slotB 2) c ∗ flying (slotB 3) c) ∗ owesE c (owedFor [] c))
            -∗ wp frame (wpE (defs₀ (F := F)) 𝒱₀ (c : Thread nD τ) none) Set.univ tidyC Q)
          -∗ wp frame (wpE (defs₀ (F := F)) 𝒱₀ (c : Thread nD τ) none) Set.univ (tidyB c) Q) := by
  iintro ⟨#HR, ⟨Hx0, Hx1, Hx2, Hx3⟩, ⟨Ho0, Ho1, Ho2, Ho3⟩, ⟨Hr0, Hr1, Hr2, Hr3⟩, ⟨Hs0, Hs1, Hs2, Hs3⟩, HO⟩ Hk
  unfold tidyB
  iapply (wp_phase1 m K 0 c _ (dev7_eq c) _ fun s h => lv_A_lt_B 0 s h) $$ [Hr0 Hx0 Ho0 Hs0 HO]
  · isplitr; · iexact HR
    isplitl [Hr0]; · iexact Hr0
    isplitl [Hx0]; · iexact Hx0
    isplitl [Ho0]; · iexact Ho0
    isplitl [Hs0] <;> iassumption
  iintro ⟨Hr0, Hx0, Hf0, HO⟩
  iapply (wp_phase1 m K 2 c _ (dev8_eq c) _ fun s h => lv_A_lt_B 2 s (List.mem_cons_of_mem _ h)) $$ [Hr2 Hx2 Ho2 Hs2 HO]
  · isplitr; · iexact HR
    isplitl [Hr2]; · iexact Hr2
    isplitl [Hx2]; · iexact Hx2
    isplitl [Ho2]; · iexact Ho2
    isplitl [Hs2] <;> iassumption
  iintro ⟨Hr2, Hx2, Hf2, HO⟩
  iapply (wp_phase1 m K 1 c _ (dev9_eq c) _ fun s h => lv_A_lt_B 1 s (List.mem_cons_of_mem _ (List.mem_cons_of_mem _ h))) $$ [Hr1 Hx1 Ho1 Hs1 HO]
  · isplitr; · iexact HR
    isplitl [Hr1]; · iexact Hr1
    isplitl [Hx1]; · iexact Hx1
    isplitl [Ho1]; · iexact Ho1
    isplitl [Hs1] <;> iassumption
  iintro ⟨Hr1, Hx1, Hf1, HO⟩
  iapply (wp_phase1 m K 3 c _ (dev10_eq c) _ fun s h => lv_A_lt_B 3 s (List.mem_cons_of_mem _ (List.mem_cons_of_mem _ (List.mem_cons_of_mem _ h)))) $$ [Hr3 Hx3 Ho3 Hs3 HO]
  · isplitr; · iexact HR
    isplitl [Hr3]; · iexact Hr3
    isplitl [Hx3]; · iexact Hx3
    isplitl [Ho3]; · iexact Ho3
    isplitl [Hs3] <;> iassumption
  iintro ⟨Hr3, Hx3, Hf3, HO⟩
  iapply Hk
  isplitl [Hx0 Hx1 Hx2 Hx3]
  · isplitl [Hx0]; · iexact Hx0
    isplitl [Hx1]; · iexact Hx1
    isplitl [Hx2] <;> iassumption
  isplitl [Hr0 Hr1 Hr2 Hr3]
  · isplitl [Hr0]; · iexact Hr0
    isplitl [Hr1]; · iexact Hr1
    isplitl [Hr2] <;> iassumption
  isplitr [HO]
  · isplitl [Hf0]; · iexact Hf0
    isplitl [Hf1]; · iexact Hf1
    isplitl [Hf2] <;> iassumption
  iexact HO

/-- A first-step transfer has left: half of the input's band is back. -/
theorem wp_doneA (K : Names) (q : Fin 4) (c : Dev nD) {k : Pg F} {Q : PUnit → sProp 𝕄} :
    iprop(records m K ∗ flying (slotA q) c ∗ owesE c (owedFor [] c))
      ⊢ iprop(((xPts m fullShare.left q c ∗ semVal (sendCell (slotA q) c) 0 ∗ owesE c (owedFor [] c))
            -∗ wp frame (wpE (defs₀ (F := F)) 𝒱₀ (c : Thread nD τ) none) Set.univ k Q)
          -∗ wp frame (wpE (defs₀ (F := F)) 𝒱₀ (c : Thread nD τ) none) Set.univ (doneStep xM q (slotA q) k) Q) := by
  have h := wp_done m K xM credit_row_x q (slotA q) c [] (k := k) (Q := Q)
  rwa [sendPay_A] at h

/-- The last part. -/
theorem wp_lastAdds (K : Names) (c : Dev nD) {Q : PUnit → sProp 𝕄} :
    iprop(records m K ∗ (flying (slotA 0) c ∗ flying (slotA 1) c ∗ flying (slotA 2) c ∗ flying (slotA 3) c)
        ∗ (flying (slotB 0) c ∗ flying (slotB 1) c ∗ flying (slotB 2) c ∗ flying (slotB 3) c)
        ∗ (canRecv (slotB 0) c ∗ canRecv (slotB 1) c ∗ canRecv (slotB 2) c ∗ canRecv (slotB 3) c) ∗ owesE c (owedFor [] c))
      ⊢ iprop((((bigSep Finset.univ fun q : Fin 4 => xPts m fullShare.left q c) ∗ (bigSep Finset.univ fun q : Fin 4 => oPts q c (Z m c))
            ∗ (bigSep Finset.univ fun s : Fin 8 => semVal (sendCell s c) 0)
            ∗ (received m (slotB 0) c ∗ received m (slotB 1) c ∗ received m (slotB 2) c ∗ received m (slotB 3) c) ∗ owesE c (owedFor [] c))
            -∗ |={Set.univ}=> Q ⟨⟩)
          -∗ wp frame (wpE (defs₀ (F := F)) 𝒱₀ (c : Thread nD τ) none) Set.univ tidyC Q) := by
  iintro ⟨#HR, ⟨Ha0, Ha1, Ha2, Ha3⟩, ⟨Hb0, Hb1, Hb2, Hb3⟩, ⟨Hr0, Hr1, Hr2, Hr3⟩, HO⟩ Hk
  unfold tidyC
  iapply (wp_phase2 m K 0 c) $$ [Hb0 Hr0 HO]
  · isplitr; · iexact HR
    isplitl [Hb0]; · iexact Hb0
    isplitl [Hr0] <;> iassumption
  iintro ⟨Hr0, Hb0, Ho0, HO⟩
  iapply (wp_phase2 m K 2 c) $$ [Hb2 Hr2 HO]
  · isplitr; · iexact HR
    isplitl [Hb2]; · iexact Hb2
    isplitl [Hr2] <;> iassumption
  iintro ⟨Hr2, Hb2, Ho2, HO⟩
  iapply (wp_phase2 m K 1 c) $$ [Hb1 Hr1 HO]
  · isplitr; · iexact HR
    isplitl [Hb1]; · iexact Hb1
    isplitl [Hr1] <;> iassumption
  iintro ⟨Hr1, Hb1, Ho1, HO⟩
  iapply (wp_phase2 m K 3 c) $$ [Hb3 Hr3 HO]
  · isplitr; · iexact HR
    isplitl [Hb3]; · iexact Hb3
    isplitl [Hr3] <;> iassumption
  iintro ⟨Hr3, Hb3, Ho3, HO⟩
  iapply (wp_doneA m K 0 c) $$ [Ha0 HO]
  · isplitr; · iexact HR
    isplitl [Ha0] <;> iassumption
  iintro ⟨Hx0, Ha0, HO⟩
  iapply (wp_doneA m K 2 c) $$ [Ha2 HO]
  · isplitr; · iexact HR
    isplitl [Ha2] <;> iassumption
  iintro ⟨Hx2, Ha2, HO⟩
  iapply (wp_doneA m K 1 c) $$ [Ha1 HO]
  · isplitr; · iexact HR
    isplitl [Ha1] <;> iassumption
  iintro ⟨Hx1, Ha1, HO⟩
  iapply (wp_doneA m K 3 c) $$ [Ha3 HO]
  · isplitr; · iexact HR
    isplitl [Ha3] <;> iassumption
  iintro ⟨Hx3, Ha3, HO⟩
  rw [wp_ret, bigSep_bands, bigSep_bands, bigSep_slots]
  iapply Hk
  isplitl [Hx0 Hx1 Hx2 Hx3]
  · isplitl [Hx0]; · iexact Hx0
    isplitl [Hx1]; · iexact Hx1
    isplitl [Hx2] <;> iassumption
  isplitl [Ho0 Ho1 Ho2 Ho3]
  · isplitl [Ho0]; · iexact Ho0
    isplitl [Ho1]; · iexact Ho1
    isplitl [Ho2] <;> iassumption
  isplitl [Ha0 Ha1 Ha2 Ha3 Hb0 Hb1 Hb2 Hb3]
  · isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2] <;> iassumption
  isplitr [HO]
  · isplitl [Hr0]; · iexact Hr0
    isplitl [Hr1]; · iexact Hr1
    isplitl [Hr2] <;> iassumption
  iexact HO

/-- All the transfers and additions. -/
theorem wp_run (K : Names) (c : Dev nD) {Q : PUnit → sProp 𝕄} :
    iprop(records m K ∗ runPre m c ∗ owesE c (owedFor order c))
      ⊢ iprop(((runPost m c ∗ owesE c (owedFor [] c)) -∗ |={Set.univ}=> Q ⟨⟩)
          -∗ wp frame (wpE (defs₀ (F := F)) 𝒱₀ (c : Thread nD τ) none) Set.univ
            (sendStep xM 0 (slotA 0) ⟨k0_dev3 c, k0_dev3_lt c⟩ <| sendStep xM 2 (slotA 2) ⟨k0_dev4 c, k0_dev4_lt c⟩ <|
              sendStep xM 1 (slotA 1) ⟨k0_dev5 c, k0_dev5_lt c⟩ <| sendStep xM 3 (slotA 3) ⟨k0_dev6 c, k0_dev6_lt c⟩ <| tidyB c) Q) := by
  unfold runPre
  rw [bigSep_bands (fun q => xPts m fullShare.left q c), bigSep_bands (fun q => xPts m fullShare.right q c),
    bigSep_bands (fun q => iprop(∃ f, oPts q c f)), bigSep_slots, bigSep_slots]
  iintro ⟨#HR, ⟨Hxl, Hxr, Ho, ⟨Hs0, Hs1, Hs2, Hs3, Hs4⟩, ⟨Hr0, Hr1, Hr2, Hr3, Hr4⟩⟩, HO⟩ Hk
  iapply (wp_firstSends m K c) $$ [Hxl Hs0 Hs1 Hs2 Hs3 HO]
  · isplitr; · iexact HR
    isplitl [Hxl]; · iexact Hxl
    isplitr [HO]
    · isplitl [Hs0]; · iexact Hs0
      isplitl [Hs1]; · iexact Hs1
      isplitl [Hs2] <;> iassumption
    iexact HO
  iintro ⟨Hfa, HO⟩
  iapply (wp_firstAdds m K c) $$ [Hxr Ho Hr0 Hr1 Hr2 Hr3 Hs4 HO]
  · isplitr; · iexact HR
    isplitl [Hxr]; · iexact Hxr
    isplitl [Ho]; · iexact Ho
    isplitl [Hr0 Hr1 Hr2 Hr3]
    · isplitl [Hr0]; · iexact Hr0
      isplitl [Hr1]; · iexact Hr1
      isplitl [Hr2] <;> iassumption
    isplitl [Hs4] <;> iassumption
  iintro ⟨Hxr, ⟨Hr0, Hr1, Hr2, Hr3⟩, Hfb, HO⟩
  iapply (wp_lastAdds m K c) $$ [Hfa Hfb Hr4 HO]
  · isplitr; · iexact HR
    isplitl [Hfa]; · iexact Hfa
    isplitl [Hfb]; · iexact Hfb
    isplitl [Hr4] <;> iassumption
  iintro ⟨Hxl, Ho, Hz, Hr4, HO⟩
  iapply Hk
  unfold runPost
  rw [bigSep_bands (fun q => xPts m fullShare.right q c), bigSep_slots (fun s => received m s c)]
  isplitr [HO]
  · isplitl [Hxl]; · iexact Hxl
    isplitl [Hxr]; · iexact Hxr
    isplitl [Ho]; · iexact Ho
    isplitl [Hz]; · iexact Hz
    isplitl [Hr0]; · iexact Hr0
    isplitl [Hr1]; · iexact Hr1
    isplitl [Hr2]; · iexact Hr2
    isplitl [Hr3] <;> iassumption
  iexact HO

/-! ## The body -/

/-- Halves of the input's bands, from the whole block and back. -/
theorem x_halves (c : Dev nD) : (((c : Thread nD τ).loc cc0_stg0_0) ↦{fullShare} X m c : sProp 𝕄)
    ⊣⊢ iprop((bigSep Finset.univ fun q : Fin 4 => xPts m fullShare.left q c) ∗ bigSep Finset.univ fun q : Fin 4 => xPts m fullShare.right q c) := by
  rw [← x_bands, ← x_bands]
  exact pointsTo_share (PosShare.mem_left_op_right fullShare)

/-- The body, from what the library hands it to what it wants back. -/
theorem sound_body (c : Dev nD) :
    bodyPre m c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m c) := by
  rw [body_eq, wp_deviceId]
  unfold bodyPre Φ₀ start ghost positions payToks creds tidy
  rw [dev1_eq c, dev2_eq c]
  iintro ⟨⟨⟨⟨%K, #HM, ⟨HaB, HaS, HaV⟩, Ht0, Ht1, HtS, HtV⟩, ⟨HcB, HcV⟩, #Hlev⟩, Hscr⟩, Ho, ⟨%d0, %g0, %hg0, Hx⟩, ⟨%d1, %g1, %hg1, Hout⟩⟩
  have hx : g0 = X m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  ihave #HR := (show iprop(marks m K ∗ levAts L lv) ⊢ (records m K : sProp 𝕄) from by unfold records; exact BI.Entails.refl _) $$ [HM Hlev]
  · isplitr <;> iassumption
  iapply (wp_handshake m K c) $$ [Hscr HO Ht0 Ht1 HaB HcB]
  · isplitr; · iexact HR
    isplitl [Hscr]; · iexact Hscr
    isplitl [HO]; · unfold owesE; iexists W; iexact HO
    isplitl [Ht0]; · iexact Ht0
    isplitl [Ht1]; · iexact Ht1
    isplitl [HaB] <;> iassumption
  iintro ⟨Hsl, HzB, HO⟩
  iapply (wp_run m K c) $$ [Hx Hout Hsl HtS HtV HaS HaV HcV HO]
  · isplitr; · iexact HR
    isplitr [HO]
    · unfold runPre canSend canRecv
      rw [bigSep_sep', bigSep_sep', bigSep_sep', bigSep_sep']
      ihave Hx' := (x_halves m c).1 $$ Hx
      icases Hx' with ⟨Hxl, Hxr⟩
      isplitl [Hxl]; · iexact Hxl
      isplitl [Hxr]; · iexact Hxr
      isplitl [Hout]
      · ihave Ho' := (Entails.of_eq (o_bands c g1)) $$ Hout
        iapply (o_forget c g1)
        iexact Ho'
      isplitl [Hsl HtS HtV HaS]
      · isplitl [Hsl]; · iexact Hsl
        isplitl [HtS]; · iexact HtS
        isplitl [HtV] <;> iassumption
      isplitl [HcV] <;> iassumption
    iexact HO
  unfold runPost received bodyPost Φ₁ Dat.owesAt Pipeline.owesWithin owesE
  rw [show (dats m 0 c).owed t₀.succ = 0 from rfl, bigSep_sep', c_slots]
  iintro ⟨⟨Hxl, Hxr, Ho, HzS, ⟨Hsl, HzV⟩⟩, ⟨%W', HO⟩⟩
  imodintro
  isplitl [Hsl HzB HzS HzV]
  · isplitl [Hsl]; · iexact Hsl
    isplitl [HzB]; · iexact HzB
    isplitl [HzS] <;> iassumption
  isplitl [HO]
  · iexists W'
    isplitr; · ipureintro; exact fun _ _ => Or.inl trivial
    iexact HO
  isplitl [Hxl Hxr]
  · iexists X m c; isplitr; · (ipureintro; rfl)
    iapply (x_halves m c).2
    isplitl [Hxl] <;> iassumption
  iexists Z m c; isplitr; · (ipureintro; rfl)
  rw [o_bands]; iexact Ho

set_option maxRecDepth 4000 in
/-- The library's body obligation on core `c`. -/
theorem body_obligation (c : Dev nD) : BodyObligation (dats (F := F) m 0 c) (defs₀ (F := F)) 𝒱₀ () Set.univ := fun t => by
  rw [fin_N t, bigSep_W, bigSep_W]
  simp only [owns_whole_eq]
  exact sound_body m c

end Cert.AllReduce

end
-- ==== Proof.Run.lean ====
/-
# The two-step all-reduce on a 2×2 mesh: the launch

From a memory with all counters at zero, the four devices' programs run to the end: the ghost state of all the cells is
allocated at once, dealt so that every device holds the tokens of the duties it pays, and each device's body runs. The
conclusion: the input arrays unchanged, the result arrays holding `Z`, every semaphore at zero.
-/
module

public import proofs.«01_k».proof.Proof.Body
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The cells and tokens of the launch -/

/-- The kernel's own semaphores: the sixteen of the scratch. -/
abbrev osem : Fin 16 → SemLoc sig := fun i => .dma (⟨2 + i.val, by omega⟩ : Fin 18)
/-- The scratch semaphores are distinct from those of the staging. -/
theorem ownSemFacts : Pipeline.OwnSemFacts cfg0.spec osem := by decide

/-- Every window holds its array whole. -/
theorem share_eq (c : Dev nD) (w : Fin cfg0.W) : (dats m 0 c).share w = fullShare := by unfold Dat.share; split <;> rfl

/-- Different devices or indices name different cells. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
/-- All the cells of the protocol. -/
def cells : Finset (GSem nD τ sig) := Finset.univ.map ⟨kcell, kcell_injective⟩

/-- A device's tokens as they are made: the duty `false` of each of its cells, and the duty `true` of its barrier cell. -/
def tokOf : Dev nD × (Fin 17 ⊕ Unit) → GSem nD τ sig × ℕ × Bool
  | (c, .inl k) => (kcell (c, k), 0, false)
  | (c, .inr _) => (barCell c, 0, true)
/-- Each token is made once. -/
theorem tokOf_injective : Function.Injective tokOf := by
  rintro ⟨c, k | _⟩ ⟨c', k' | _⟩ h
  · have := kcell_injective (congrArg Prod.fst h)
    rw [Prod.mk.injEq] at this
    rw [this.1, this.2]
  · exact absurd (congrArg (fun x => x.2.2) h) Bool.false_ne_true
  · exact absurd (congrArg (fun x => x.2.2) h).symm Bool.false_ne_true
  · have h1 : c = c' := congrArg (fun x => x.1.1.1) h
    rw [h1]
/-- All the tokens of the protocol. -/
def tokens : Finset (GSem nD τ sig × ℕ × Bool) := Finset.univ.map ⟨tokOf, tokOf_injective⟩

/-- The ghost state at launch: the pipeline's cells and tokens, and the protocol's. -/
def u₀ : UU := (initOf (Pipeline.cells cfgs cellOf_inj) (Pipeline.launchToks cfgs cellOf_inj), initOf cells tokens)

/-! ## A device's cells, by kind -/

/-- Sixteen resources are the first eight and the last eight. -/
theorem bigSep_sixteen (Φ : Fin 16 → sProp 𝕄) : bigSep Finset.univ Φ
    = iprop((bigSep Finset.univ fun s : Fin 8 => Φ (Fin.castAdd 8 s)) ∗ bigSep Finset.univ fun s : Fin 8 => Φ (Fin.natAdd 8 s)) := by
  rw [BI.bigSep_univ_equiv (finSumFinEquiv (m := 8) (n := 8)) Φ]
  exact BI.bigSep_univ_sum _

/-- After the barrier's come the eight send semaphores, -/
theorem csem_send_succ : ∀ s : Fin 8, csem (Fin.succEmb 16 (Fin.castAdd 8 s)) = .dma (sendS s) := by decide
/-- and then the eight receive semaphores. -/
theorem csem_recv_succ : ∀ s : Fin 8, csem (Fin.succEmb 16 (Fin.natAdd 8 s)) = .dma (recvS s) := by decide
/-- The first eight of the scratch semaphores are the send semaphores. -/
theorem osem_send : ∀ s : Fin 8, osem (Fin.castAdd 8 s) = .dma (sendS s) := by decide
/-- The last eight of the scratch semaphores are the receive semaphores. -/
theorem osem_recv : ∀ s : Fin 8, osem (Fin.natAdd 8 s) = .dma (recvS s) := by decide
/-- The indices of a device's cells are 0 and the sixteen after it. -/
theorem univ_seventeen : (Finset.univ : Finset (Fin 17)) = insert 0 (Finset.univ.map (Fin.succEmb 16)) := by decide

/-- All of a device's cells: the barrier's, the send cells, the receive cells. -/
theorem bigSep_cells (Φ : GSem nD τ sig → sProp 𝕄) (c : Dev nD) : (bigSep Finset.univ fun k : Fin 17 => Φ (kcell (c, k)))
    = iprop(Φ (barCell c) ∗ (bigSep Finset.univ fun s : Fin 8 => Φ (sendCell s c)) ∗ bigSep Finset.univ fun s : Fin 8 => Φ (recvCell s c)) := by
  rw [univ_seventeen, BI.bigSep_insert (by decide), BI.bigSep_map, bigSep_sixteen]
  rw [bigSep_congr (s := Finset.univ) fun (s : Fin 8) _ => show Φ (kcell (c, Fin.succEmb 16 (Fin.castAdd 8 s))) = Φ (sendCell s c) from
      congrArg (fun x => Φ ((c : Thread nD τ), x)) (csem_send_succ s),
    bigSep_congr (s := Finset.univ) fun (s : Fin 8) _ => show Φ (kcell (c, Fin.succEmb 16 (Fin.natAdd 8 s))) = Φ (recvCell s c) from
      congrArg (fun x => Φ ((c : Thread nD τ), x)) (csem_recv_succ s)]
  rfl

/-- The kernel's own semaphores at zero, by kind. -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 8 => semVal (sendCell s c) 0) ∗ bigSep Finset.univ fun s : Fin 8 => semVal (recvCell s c) 0) := by
  unfold Pipeline.ownSems0
  rw [bigSep_sixteen]
  rw [bigSep_congr (s := Finset.univ) fun (s : Fin 8) _ => show (semVal ((c.tc : Thread nD τ), osem (Fin.castAdd 8 s)) 0 : sProp 𝕄) = semVal (sendCell s c) 0 from
      congrArg (fun x => semVal ((c : Thread nD τ), x) 0) (osem_send s),
    bigSep_congr (s := Finset.univ) fun (s : Fin 8) _ => show (semVal ((c.tc : Thread nD τ), osem (Fin.natAdd 8 s)) 0 : sProp 𝕄) = semVal (recvCell s c) 0 from
      congrArg (fun x => semVal ((c : Thread nD τ), x) 0) (osem_recv s)]
/-- The barrier semaphore is the one that outlives the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they put every cell of a device at zero. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [bigSep_cells (fun g => semVal g 0), ownSems0_eq, unscopedSems0_eq]
  iintro ⟨⟨HS, HV⟩, HB⟩
  isplitl [HB]; · iexact HB
  isplitl [HS] <;> iassumption

/-! ## The ghost state made and dealt -/

/-- The tokens of device `c`'s own cells. -/
def toks (c : Dev nD) : sProp 𝕄 :=
  iprop((bigSep Finset.univ fun k : Fin 17 => dutyTok ER (kcell (c, k)) 0 false) ∗ dutyTok ER (barCell c) 0 true)

/-- What the launch element gives device `c`: the cells' round states, its positions and marks, its cells' tokens. -/
def G (c : Dev nD) : sProp 𝕄 :=
  iprop((bigSep Finset.univ fun k : Fin 17 => roundState ER (sched m) (kcell (c, k)) 0)
    ∗ (bigSep Finset.univ fun k : Fin 17 => iprop(atPos ER (kcell (c, k)) 0 ∅ 0 ∗ reached ER (kcell (c, k)) 0)) ∗ toks c)
/-- What every device has after the cells' invariants are allocated. -/
def G' (c : Dev nD) : sProp 𝕄 := iprop(∃ K, ghost m K c)

/-- A family over all cells, by device and index. -/
theorem bigSep_cells_all (Φ : GSem nD τ sig → sProp 𝕄) : bigSep cells Φ = bigSep Finset.univ fun c : Dev nD => bigSep Finset.univ fun k : Fin 17 => Φ (kcell (c, k)) := by
  unfold cells; rw [BI.bigSep_map, bigSep_univ_prod]; rfl
/-- All tokens, by device. -/
theorem bigSep_tokens : bigSep tokens (fun x => (dutyTok ER x.1 x.2.1 x.2.2 : sProp 𝕄)) = bigSep Finset.univ fun c : Dev nD => toks c := by
  unfold tokens; rw [BI.bigSep_map, bigSep_univ_prod]
  refine bigSep_congr fun c _ => ?_
  unfold toks
  rw [BI.bigSep_univ_sum, show (Finset.univ : Finset Unit) = {()} from rfl, BI.bigSep_singleton]
  rfl

/-- The protocol's launch element gives every device its part. -/
theorem fund : BI.own (ER (initOf cells tokens)) ⊢ (|==> bigSep Finset.univ (G m) : sProp 𝕄) := by
  iintro HX
  imod (Rounds.fund ER (sched m) cells tokens) $$ HX with ⟨Hst, Hr, Hat, Htok⟩
  imodintro
  ihave Hst' := (Entails.of_eq (bigSep_cells_all fun g => roundState ER (sched m) g 0)) $$ Hst
  ihave Hat' := (Entails.of_eq (bigSep_cells_all fun g => atPos ER g 0 ∅ 0)) $$ Hat
  ihave Hr' := (Entails.of_eq (bigSep_cells_all fun g => reached ER g 0)) $$ Hr
  ihave Htok' := (Entails.of_eq (bigSep_tokens (F := F))) $$ Htok
  unfold G; simp only [bigSep_sep']
  isplitl [Hst']; · iexact Hst'
  isplitl [Hat' Hr']
  · isplitl [Hat'] <;> iassumption
  iexact Htok'

/-- On one device: semaphores at zero and round states make the cells' invariants, at some names. -/
theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 17 => iprop(∃ κ : ℕ, cellInv ER (sched m) κ (kcell (c, k))))
          ∗ (bigSep Finset.univ fun k : Fin 17 => iprop(atPos ER (kcell (c, k)) 0 ∅ 0 ∗ reached ER (kcell (c, k)) 0)) ∗ toks c) := by
  have halloc : iprop((bigSep Finset.univ fun k : Fin 17 => semVal (kcell (c, k)) 0) ∗ bigSep Finset.univ fun k : Fin 17 => roundState ER (sched m) (kcell (c, k)) 0)
      ⊢ (|={Set.univ}=> bigSep Finset.univ fun k : Fin 17 => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold G
  iintro ⟨Hos, Hus, Hst, Hat, Htok⟩
  ihave Hv := (sems0 (F := F) c) $$ [Hos Hus]
  · isplitl [Hos] <;> iassumption
  imod halloc $$ [Hv Hst] with Hinv
  · isplitl [Hv] <;> iassumption
  imodintro
  isplitl [Hinv]; · iexact Hinv
  isplitl [Hat] <;> iassumption

/-- A family over devices, read at the neighbours along an axis. -/
theorem bigSep_nb (d : Bool) (Φ : Dev nD → sProp 𝕄) : bigSep Finset.univ Φ = bigSep Finset.univ fun c => Φ (nb d c) :=
  BI.bigSep_univ_equiv (nbEquiv d) Φ

/-- The receive cells' tokens go to the peers, slot by slot. -/
theorem recv_around : (bigSep Finset.univ fun c : Dev nD => bigSep Finset.univ fun s : Fin 8 => (dutyTok ER (recvCell s c) 0 false : sProp 𝕄))
    = bigSep Finset.univ fun c : Dev nD => bigSep Finset.univ fun s : Fin 8 => dutyTok ER (recvCell s (peer s c)) 0 false := by
  have h (Φ : Dev nD → Fin 8 → sProp 𝕄) : (bigSep Finset.univ fun c : Dev nD => bigSep Finset.univ fun s : Fin 8 => Φ c s)
      = bigSep Finset.univ fun s : Fin 8 => bigSep Finset.univ fun c : Dev nD => Φ c s := by
    rw [← bigSep_univ_prod (fun cs : Dev nD × Fin 8 => Φ cs.1 cs.2), BI.bigSep_univ_equiv (Equiv.prodComm (Fin 8) (Dev nD)), bigSep_univ_prod]; rfl
  rw [h, h]
  exact bigSep_congr fun s _ => bigSep_nb (side s) fun c => dutyTok ER (recvCell s c) 0 false

/-- Every device's own tokens, dealt to the devices that pay the duties. -/
theorem toks_around : (bigSep Finset.univ fun c : Dev nD => (toks c : sProp 𝕄)) ⊢ bigSep Finset.univ fun c : Dev nD => payToks c := by
  unfold toks payToks
  rw [bigSep_congr (s := Finset.univ) fun (c : Dev nD) _ => show iprop((bigSep Finset.univ fun k : Fin 17 => (dutyTok ER (kcell (c, k)) 0 false : sProp 𝕄)) ∗ dutyTok ER (barCell c) 0 true) = _ by
    rw [bigSep_cells (fun g => dutyTok ER g 0 false)]]
  rw [bigSep_sep', bigSep_sep', bigSep_sep', bigSep_sep', bigSep_sep', bigSep_sep', recv_around,
    bigSep_nb false (fun c : Dev nD => (dutyTok ER (barCell c) 0 false : sProp 𝕄)), bigSep_nb true (fun c : Dev nD => (dutyTok ER (barCell c) 0 true : sProp 𝕄))]
  iintro ⟨⟨H1, H2, H3⟩, H4⟩
  isplitl [H1]; · iexact H1
  isplitl [H4]; · iexact H4
  isplitl [H2] <;> iassumption

/-- What is persistent goes to every summand. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Marks, positions and the tokens a device pays with are its ghost state. -/
theorem ghost_intro (K : Names) (c : Dev nD) : iprop(marks m K ∗ (bigSep Finset.univ fun k : Fin 17 => atPos ER (kcell (c, k)) 0 ∅ 0) ∗ payToks c) ⊢ G' m c := by
  rw [bigSep_cells (fun g => atPos ER g 0 ∅ 0)]
  unfold G' ghost positions
  iintro ⟨HM, Hp, Ht⟩
  iexists K
  isplitl [HM]; · iexact HM
  isplitl [Hp] <;> iassumption

/-- With the cells' invariants allocated and the tokens dealt, every device has its ghost state at common names. -/
theorem regroup :
    (bigSep Finset.univ fun c : Dev nD => iprop((bigSep Finset.univ fun k : Fin 17 => iprop(∃ κ : ℕ, cellInv ER (sched m) κ (kcell (c, k))))
          ∗ (bigSep Finset.univ fun k : Fin 17 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 17 => iprop(∃ κ : ℕ, cellInv ER (sched m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, HR⟩, Htok⟩
  ihave HK := (BI.bigSep_exists_pi Finset.univ (fun (ck : Dev nD × Fin 17) (κ : ℕ) => (cellInv ER (sched m) κ (kcell ck) : sProp 𝕄))) $$ HI
  icases HK with ⟨%K, HI⟩
  ihave Htk := (toks_around (F := F)) $$ Htok
  iapply (bigSep_with (R := marks m K) fun c _ => ghost_intro m K c)
  isplitl [HI HR]
  · unfold marks; isplitl [HI] <;> iassumption
  · rw [bigSep_sep']
    isplitl [Hat] <;> iassumption

/-- The launch's global step: all devices' semaphores and ghost state at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (regroup m))

/-! ## The credit at launch -/

/-- A DMA semaphore is not a regular one. -/
theorem reg_ne_dma (q : DmaSem sig) (s : Sem sig) : (SemLoc.dma q : SemLoc sig) ≠ .reg s := fun h => by cases h

/-- Barrier cells are equal when their devices are. -/
theorem bar_eq_iff {a b : Dev nD} : barCell a = barCell b ↔ a = b :=
  ⟨fun h => congrArg (fun g : GSem nD τ sig => g.1.1) h, fun h => h ▸ rfl⟩
/-- Receive cells are equal when their slots and devices are. -/
theorem recv_eq_iff {s s' : Fin 8} {a b : Dev nD} : recvCell s a = recvCell s' b ↔ s = s' ∧ a = b :=
  ⟨fun h => ⟨recvS_injective (SemLoc.dma.inj (congrArg Prod.snd h)), congrArg (fun g : GSem nD τ sig => g.1.1) h⟩, fun h => by rw [h.1, h.2]⟩

/-- What device `d` owes one receive cell: the credit for each transfer of that slot, if it is the peer. -/
theorem owedFor_recv (l : List (Fin 8)) (s : Fin 8) (d c : Dev nD) : owedFor l d (recvCell s c) () = if d = peer s c then N * l.count s else 0 := by
  induction l with
  | nil => rw [List.count_nil, Nat.mul_zero, ite_self]; rfl
  | cons s' l ih =>
    unfold owedFor
    rw [Pi.add_apply, Finsupp.add_apply, ih, tallyAt_apply, List.count_cons]
    by_cases hs : s' = s
    · subst hs
      by_cases hd : d = peer s' c
      · subst hd
        rw [if_pos rfl, if_pos rfl, if_pos ⟨by rw [peer_peer], rfl⟩, if_pos (beq_self_eq_true _), Nat.mul_add, Nat.mul_one]
      · rw [if_neg hd, if_neg hd, if_neg fun h => hd (by rw [(recv_eq_iff.mp h.1).2, peer_peer])]
    · have h0 : ¬ (recvCell s c = recvCell s' (peer s' d) ∧ () = ()) := fun h => hs (recv_eq_iff.mp h.1).1.symm
      rw [if_neg h0, Nat.add_zero, if_neg (c := (s' == s) = true) (by simpa using hs), Nat.add_zero]

/-- Transfers owe nothing to a barrier cell. -/
theorem owedFor_bar (l : List (Fin 8)) (d c : Dev nD) : owedFor l d (barCell c) () = 0 := by
  by_contra h
  obtain ⟨s, -, e⟩ := owedFor_pos (Nat.pos_of_ne_zero h)
  exact reg_ne_dma _ _ (congrArg Prod.snd e).symm

/-- At launch a receive cell is owed a band's credit by its slot's peer, and nothing by the others. -/
theorem owed_recv (s : Fin 8) (d c : Dev nD) : O₀ d (recvCell s c) () = if d = peer s c then N else 0 := by
  unfold O₀ O₁
  rw [Pi.add_apply, Finsupp.add_apply, Pi.add_apply, Finsupp.add_apply, owedFor_recv,
    tallyAt_ne_cell (fun h => reg_ne_dma _ _ (congrArg Prod.snd h)), tallyAt_ne_cell (fun h => reg_ne_dma _ _ (congrArg Prod.snd h)),
    Finsupp.zero_apply, Nat.add_zero, Nat.add_zero, show order.count s = 1 by revert s; decide, Nat.mul_one]

/-- The unit for a neighbour is counted at a barrier cell if the cell is that neighbour's. -/
theorem tally_bar (e : Bool) (d c : Dev nD) : (tallyAt (barCell (nb e d)) () 1 : CellTallies nD τ sig Unit) (barCell c) () = if d = nb e c then 1 else 0 := by
  rw [tallyAt_apply]
  by_cases h : d = nb e c
  · subst h; rw [nb_nb, if_pos ⟨rfl, rfl⟩, if_pos rfl]
  · rw [if_neg (fun h' => h (by rw [bar_eq_iff.mp h'.1, nb_nb])), if_neg h]

/-- At launch a barrier cell is owed one unit by each neighbour. -/
theorem owed_bar (d c : Dev nD) : O₀ d (barCell c) () = (if d = nb true c then 1 else 0) + (if d = nb false c then 1 else 0) := by
  unfold O₀ O₁
  rw [Pi.add_apply, Finsupp.add_apply, Pi.add_apply, Finsupp.add_apply, owedFor_bar, tally_bar, tally_bar, Nat.zero_add]

/-- So a barrier cell's credit at launch is two units, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb true c) fun _ => 1, Finset.sum_ite_eq' Finset.univ (nb false c) fun _ => 1, if_pos (Finset.mem_univ _), if_pos (Finset.mem_univ _)]
/-- and a receive cell's is a band's credit. -/
theorem launch_recv (s : Fin 8) (c : Dev nD) :
    tallyOn (recvCell s c) (launchCredit (Pipeline.owing O₀) 0 (recvCell s c)) = (tallyAt (recvCell s c) () N : CellTallies nD τ sig Unit) := by
  unfold tallyAt; refine congrArg _ (Finsupp.ext fun u => ?_); cases u
  rw [Pipeline.launchCredit_owing, Finsupp.single_eq_same, Finset.sum_congr rfl fun d _ => owed_recv s d c, Finset.sum_ite_eq' Finset.univ (peer s c) fun _ => N,
    if_pos (Finset.mem_univ _)]

/-- The receive semaphores among all. -/
def recvEmb : Fin 8 ↪ SemLoc sig := ⟨fun s => .dma (recvS s), fun _ _ h => recvS_injective (SemLoc.dma.inj h)⟩

/-- The credit at launch is what a device waits with. -/
theorem creds_intro (c : Dev nD) : (Pipeline.launchCred O₀ c : sProp 𝕄) ⊢ creds c := by
  unfold Pipeline.launchCred creds
  rw [bigSep_univ_at _ (SemLoc.reg barS), launch_bar]
  refine sep_mono_right ((BI.bigSep_subset (t := Finset.univ.map recvEmb) fun sm h => ?_).trans ?_)
  · obtain ⟨s, -, rfl⟩ := Finset.mem_map.mp h
    exact Finset.mem_erase.mpr ⟨reg_ne_dma _ _, Finset.mem_univ _⟩
  · rw [BI.bigSep_map]
    exact bigSep_mono fun s _ => Entails.of_eq (congrArg cred (launch_recv s c))

/-! ## The launch theorem's conditions -/

/-- What the launch leaves a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

/-- With the communication buffer this is the body's precondition. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

/-- What the body ends with gives back the semaphores at zero and the communication buffer. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨Hr, HzB, HzS, HzV⟩
  isplitl [HzB]; · iexact HzB
  isplitl [HzS HzV]
  · isplitl [HzS] <;> iassumption
  iexists (landed m c); iexact Hr

/-- The waits of the staging transfers are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- Window `w`'s array on device `c` at the end. -/
def finalA (c : Dev nD) (w : Fin cfg0.W) : Buf (Elt F) ((cfg0.win w).arr.view.loc (c : Thread nD τ)) := (dats m 0 c).arrAt w cfg0.N

set_option maxRecDepth 8000 in
/-- For any float values, from any memory with all counters at zero, the four devices' programs end, each array with the
    contents `finalA` says and every semaphore at zero. -/
theorem run_main : θ_run defs (onTc (τ := τ) (main (F := F))) (s₀ m ρ)
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input's array ends as it was. -/
theorem finalA_x (c : Dev nD) : finalA m c (0 : Fin 2) = m (win0_0.arr.view.loc (c : Thread nD τ)) :=
  (dats (F := F) m 0 c).arrAt_in (0 : Fin 2) rfl _

end Cert.AllReduce

end
-- ==== Proof.Value.lean ====
/-
# The two-step all-reduce on a 2×2 mesh: what the result is

The result array holds `Z` of the input blocks. With exact addition `Z` is the sum of the four devices' blocks, the same on
every device, whichever axis a band adds along first; and the reference's sum over the block coordinates of the whole
array is that sum, because device `2a + b` holds block `(a, b)`.
-/
module

public import proofs.«01_k».proof.Proof.Run
public import proofs.«01_k».proof.Proof.Gen.ReferenceIdeal
public import Idealize.ShloMosaic.Lib.IdealHost
public import Idealize.ShloMosaic.Lib.Pipeline.ValueKit
public import Idealize.ShloMosaic.Lib.Pointwise.Index
public import Idealize.ShloMosaic.Lib.Layout
public import Idealize.ShloMosaic.PureOps.Reduce

@[expose] public section

noncomputable section

namespace Cert.AllReduce

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The arrays at the two ends -/

section Arrays

variable {F : FTy → Type} [FloatOps F] (m : (ℓ : Loc nD τ sig) → Buf (Elt F) ℓ)

/-- The input's one block is its whole array. -/
theorem X_eq (c : Dev nD) : X m c = m ((c : Thread nD τ).loc main_arg0) := by
  funext i
  refine congrArg (m ((c : Thread nD τ).loc main_arg0)) (?_ : (win0_0.rect (0 : Fin 1)).emb i = i)
  funext a; apply Fin.ext
  exact Window.rect_emb_val_of_index_zero win0_0 t₀ a rfl i

/-- The result's one block is its whole array. -/
theorem finalA_o (c : Dev nD) : finalA m c (1 : Fin 2) = Z m c := by
  unfold finalA
  refine (dats m 0 c).arrAt_eq_of_after_last (1 : Fin 2) t₀ (by decide +kernel) _ fun j => ?_
  rfl

/-- The run, read at the two arrays. -/
theorem run_arrays (ρ : Dev nD → PrngReg) : θ_run defs (onTc (τ := τ) (main (F := F))) ⟨m, fun _ => 0, ρ⟩
    (fun r => (∀ c : Dev nD, r.2.mem ((c : Thread nD τ).loc main_v1) = Z m c
        ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_o m c), (h.1 c (0 : Fin 2)).trans (finalA_x m c)⟩, h.2⟩)
    (run_main m ρ)

end Arrays

/-! ## Exact sums -/

/-- From any device, the neighbours along either axis and the neighbour of a neighbour are the whole mesh. -/
theorem mesh_eq : ∀ (d : Bool) (c : Dev nD), (Finset.univ : Finset (Dev nD)) = {c, nb d c, nb (!d) c, nb d (nb (!d) c)} := by decide
/-- These four devices are distinct. -/
theorem mesh_ne : ∀ (d : Bool) (c : Dev nD), c ∉ ({nb d c, nb (!d) c, nb d (nb (!d) c)} : Finset (Dev nD))
    ∧ nb d c ∉ ({nb (!d) c, nb d (nb (!d) c)} : Finset (Dev nD)) ∧ nb (!d) c ∉ ({nb d (nb (!d) c)} : Finset (Dev nD)) := by decide

/-- Adding along one axis and then along the other adds all four devices, whichever axis is first and wherever one starts. -/
theorem sum_two_steps (f : Dev nD → EReal) (d : Bool) (c : Dev nD) :
    (f c + f (nb d c)) + (f (nb (!d) c) + f (nb d (nb (!d) c))) = ∑ c' : Dev nD, f c' := by
  obtain ⟨h1, h2, h3⟩ := mesh_ne d c
  rw [mesh_eq d c, Finset.sum_insert h1, Finset.sum_insert h2, Finset.sum_insert h3, Finset.sum_singleton, add_assoc]

/-- A band's second step is along the axis its first step is not. -/
theorem side_slotB : ∀ q : Fin 4, side (slotB q) = !side (slotA q) := by decide

variable (m : (ℓ : Loc nD τ sig) → Buf (Elt Ideal) ℓ)

/-- The result at an index: the four devices' inputs at that index, added. -/
theorem Z_eq_sum (c : Dev nD) (i : S512x512.Idx) : Z m c i = (∑ c' : Dev nD, (X m c' i : EReal)) := by
  rw [← sum_two_steps (fun c' => X m c' i) (side (slotA (bandOf i))) c, ← side_slotB]
  rfl

/-! ## The reference -/

/-- The entry of the four-axis array that is entry `j` of block `(a, b)`. -/
def entry (c : Dev nD) (j : Cert.ReferenceIdeal.S512x512.Idx) : Cert.ReferenceIdeal.S2x512x2x512.Idx :=
  ValueIdx.ix4 (⟨c.val / 2, by have : c.val < 4 := c.isLt; omega⟩ : Fin 2) (j 0) (⟨c.val % 2, by omega⟩ : Fin 2) (j 1)

/-- The reference sums entry `i` of the four-axis array into `j` when `i`'s coordinates inside the block are those of `j`. -/
theorem drop_eq_iff (i : Cert.ReferenceIdeal.S2x512x2x512.Idx) (j : Cert.ReferenceIdeal.S512x512.Idx) :
    Cert.ReferenceIdeal.Gen.reducesTo_S2x512x2x512_S512x512_d0_2.drop i = j ↔ (i 1).val = (j 0).val ∧ (i 3).val = (j 1).val := by
  have h0 := Cert.ReferenceIdeal.Gen.reducesTo_S2x512x2x512_S512x512_d0_2.drop_apply_val_of_eq i 0 1
  have h1 := Cert.ReferenceIdeal.Gen.reducesTo_S2x512x2x512_S512x512_d0_2.drop_apply_val_of_eq i 1 3
  constructor
  · rintro rfl; exact ⟨h0.symm, h1.symm⟩
  · intro h
    funext a; apply Fin.ext
    match a with
    | ⟨0, _⟩ => exact h0.trans h.1
    | ⟨1, _⟩ => exact h1.trans h.2

/-- The entries that are summed into `j` are one per device. -/
theorem sum_entries (x : Cert.ReferenceIdeal.S2x512x2x512.Idx → EReal) (j : Cert.ReferenceIdeal.S512x512.Idx) :
    (∑ i ∈ Finset.univ.filter (fun i => Cert.ReferenceIdeal.Gen.reducesTo_S2x512x2x512_S512x512_d0_2.drop i = j), x i)
      = ∑ c : Dev nD, x (entry c j) := by
  symm
  refine Finset.sum_nbij' (fun c => entry c j)
    (fun i => (⟨2 * (i 0).val + (i 2).val, by
      have h0 : (i 0).val < 2 := (i 0).isLt
      have h2 : (i 2).val < 2 := (i 2).isLt
      show _ < 4; omega⟩ : Dev nD)) (fun c _ => ?_) (fun i _ => Finset.mem_univ _) (fun c _ => ?_) (fun i hi => ?_) (fun c _ => rfl)
  · exact Finset.mem_filter.mpr ⟨Finset.mem_univ _, (drop_eq_iff _ _).mpr ⟨rfl, rfl⟩⟩
  · exact Fin.ext (show 2 * (c.val / 2) + c.val % 2 = c.val by omega)
  · obtain ⟨e0, e1⟩ := (drop_eq_iff _ _).mp (Finset.mem_filter.mp hi).2
    have h0 : (i 0).val < 2 := (i 0).isLt
    have h2 : (i 2).val < 2 := (i 2).isLt
    funext a; apply Fin.ext
    match a with
    | ⟨0, _⟩ => show (2 * (i 0).val + (i 2).val) / 2 = (i 0).val; omega
    | ⟨1, _⟩ => exact e0.symm
    | ⟨2, _⟩ => show (2 * (i 0).val + (i 2).val) % 2 = (i 2).val; omega
    | ⟨3, _⟩ => exact e1.symm

/-- Device `c`'s block of a whole array, entry `j`, is that entry of the array regrouped along four axes. -/
theorem block_entry (x : Cert.ReferenceIdeal.S1024x1024.Idx → EReal) (c : Dev nD) (j : S512x512.Idx) :
    Layout.blockN ⟨2, ![512, 512]⟩ ⟨2, ![1024, 1024]⟩ (Layout.meshBlock [2, 2] ![[0], [1]] c) x (by decide) j
      = shapeCast Cert.ReferenceIdeal.S2x512x2x512 x Cert.ReferenceIdeal.Gen.shapeCasts_S1024x1024_S2x512x2x512 (entry c j) := by
  rw [Layout.blockN_apply]
  refine (shapeCast_apply _ _ _ _ ?_).symm
  have e0 : (Layout.meshBlock (r := 2) [2, 2] ![[0], [1]] c (by decide) 0).val = c.val / 2 := by revert c; decide
  have e1 : (Layout.meshBlock (r := 2) [2, 2] ![[0], [1]] c (by decide) 1).val = c.val % 2 := by revert c; decide
  rw [Shape.rowMajor_val_two, Shape.rowMajor_val_four]
  show ((Layout.meshBlock (r := 2) [2, 2] ![[0], [1]] c (by decide) 0).val * 512 + (j 0).val) * 1024 + ((Layout.meshBlock (r := 2) [2, 2] ![[0], [1]] c (by decide) 1).val * 512 + (j 1).val)
    = ((c.val / 2 * 512 + (j 0).val) * 2 + c.val % 2) * 512 + (j 1).val
  rw [e0, e1]
  omega

/-- If every device's input is its block of the reference's argument, every device's result is the reference's. -/
theorem Z_eq_reference (x : Cert.ReferenceIdeal.S1024x1024.Idx → EReal)
    (hm : ∀ c : Dev nD, m ((c : Thread nD τ).loc main_arg0)
      = Layout.blockN ⟨2, ![512, 512]⟩ ⟨2, ![1024, 1024]⟩ (Layout.meshBlock [2, 2] ![[0], [1]] c) x) (c : Dev nD) :
    Z m c = Host.reduceAdd (F := Ideal) (φ := .f32) (shapeCast Cert.ReferenceIdeal.S2x512x2x512 x Cert.ReferenceIdeal.Gen.shapeCasts_S1024x1024_S2x512x2x512)
      (constant Cert.ReferenceIdeal.S_ .f32 0x00000000#32) Cert.ReferenceIdeal.Gen.reducesTo_S2x512x2x512_S512x512_d0_2 Cert.ReferenceIdeal.Gen.h_S_ := by
  funext j
  rw [Z_eq_sum, hostReduceAdd_apply]
  unfold Ideal.hostReduceAdd
  rw [sum_entries]
  refine Eq.trans ?_ (zero_add _).symm |>.trans (congrArg (· + _) Ideal.ofBits_zero_f32.symm)
  exact Finset.sum_congr rfl fun c' _ => by rw [X_eq, hm, block_entry]

end Cert.AllReduce

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value

@[expose] public section

noncomputable section

namespace Cert.Proof

open Idealize.ShloMosaic Idealize.ShloMosaic.TcCoe Idealize.SL.Sem

/-- The two readings of the kernel run the same body. -/
theorem defs₀_eq : Cert.Kernel.defs₀ (F := Bits) = Cert.KernelIdeal.defs₀ (F := Bits) := by
  unfold Cert.Kernel.defs₀ Cert.KernelIdeal.defs₀
  refine congrArg Defs.onTc (funext fun ℓ => funext fun x => ?_)
  match ℓ, x with
  | ⟨0, _⟩, x => rfl
/-- So they run the same program. -/
theorem defs_eq : Cert.Kernel.defs (F := Bits) = Cert.KernelIdeal.defs (F := Bits) := congrArg (Pipeline.defs _) defs₀_eq

/-- The kernel on float words ends with its input as it was and every semaphore at zero. -/
theorem frame_kernel : Cert.quiescent_Kernel := fun m ρ _ => by
  have h : θ_run Cert.KernelIdeal.defs (onTc (τ := Cert.KernelIdeal.τ) (Cert.KernelIdeal.main (F := Bits))) ⟨m, fun _ => 0, ρ⟩ (fun r =>
      (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0)) ∧ r.2.sem = fun _ => 0) :=
    (θ_run Cert.KernelIdeal.defs _ _).mono (fun _ h => ⟨fun c => (h.1 c).2, h.2⟩) (Cert.AllReduce.run_arrays (F := Bits) m ρ)
  rw [← defs_eq] at h
  exact h

/-- So does the kernel on exact values. -/
theorem frame_ideal : Cert.quiescent_KernelIdeal := fun m ρ _ =>
  (θ_run Cert.KernelIdeal.defs _ _).mono (fun _ h => ⟨fun c => (h.1 c).2, h.2⟩) (Cert.AllReduce.run_arrays (F := Ideal) m ρ)

/-- The reference has no semaphore. -/
theorem no_sem (s : SemLoc Cert.ReferenceIdeal.sig) : False := by
  cases s with
  | reg s => exact s.elim0
  | dma s => exact s.elim0

/-- The reference ends with its argument as it was. -/
theorem frame_reference : Cert.quiescent_ReferenceIdeal := fun m ρ _ =>
  (θ_run Cert.ReferenceIdeal.defs _ _).mono (fun _ h => ⟨fun c => (h c).2, funext fun g => (no_sem g.2).elim⟩)
    (Cert.ReferenceIdeal.Value.run (F := Ideal) m ρ)

/-- On exact values every device's result is the reference's result. -/
theorem value : Cert.algebraic_KernelIdeal_ReferenceIdeal := fun m ρ m' ρ' _ hm =>
  ⟨_, (θ_run Cert.KernelIdeal.defs _ _).mono (fun _ h c => ⟨(h.1 c).1.trans (Cert.AllReduce.Z_eq_reference m _ hm c), (h.1 c).2⟩)
      (Cert.AllReduce.run_arrays (F := Ideal) m ρ),
    (θ_run Cert.ReferenceIdeal.defs _ _).mono (fun _ h => h 0) (Cert.ReferenceIdeal.Value.run (F := Ideal) m' ρ')⟩

/-- The claims about this kernel: both readings and the reference leave their arguments as they were and end with every
semaphore at zero, and on exact values every device's result is the reference's. -/
theorem claim : Cert.Claim := ⟨Cert.Kernel.Gen.facts, Cert.KernelIdeal.Gen.facts, Cert.ReferenceIdeal.Gen.facts,
  frame_kernel, frame_ideal, frame_reference, trivial, value⟩

end Cert.Proof

end
